-- ==== Defs.lean ====
def Pre_Kernel [hPre_sizes_are_row_counts : Cert.Pre_sizes_are_row_counts.Facts] (m : (ℓ : Loc Cert.Kernel.nD Cert.Kernel.τ Cert.Kernel.sig) → Buf (Elt Bits) ℓ) : Prop :=
  ∀ c : Dev Cert.Kernel.nD,
    (Cert.Pre_sizes_are_row_counts.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_are_row_counts : Cert.Pre_sizes_are_row_counts.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_are_row_counts.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_are_row_counts [hPre_sizes_are_row_counts : Cert.Pre_sizes_are_row_counts.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_are_row_counts.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_are_row_counts : Cert.Pre_sizes_are_row_counts.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_are_row_counts : Cert.Pre_sizes_are_row_counts.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_are_row_counts [hReferenceIdeal : Cert.ReferenceIdeal.Facts] [hPre_sizes_are_row_counts : Cert.Pre_sizes_are_row_counts.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_are_row_counts m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] [hPre_sizes_are_row_counts : Cert.Pre_sizes_are_row_counts.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_are_row_counts : Cert.Pre_sizes_are_row_counts.Facts),
    quiescent_Kernel (hKernel := hKernel) (hPre_sizes_are_row_counts := hPre_sizes_are_row_counts)
    ∧ quiescent_KernelIdeal (hKernelIdeal := hKernelIdeal) (hPre_sizes_are_row_counts := hPre_sizes_are_row_counts)
    ∧ quiescent_ReferenceIdeal (hReferenceIdeal := hReferenceIdeal)
    ∧ quiescent_ReferenceIdeal_pre_sizes_are_row_counts (hReferenceIdeal := hReferenceIdeal) (hPre_sizes_are_row_counts := hPre_sizes_are_row_counts)
    ∧ preserves_Kernel_KernelIdeal
    ∧ algebraic_KernelIdeal_ReferenceIdeal (hKernelIdeal := hKernelIdeal) (hReferenceIdeal := hReferenceIdeal) (hPre_sizes_are_row_counts := hPre_sizes_are_row_counts)
-- ==== Pre_sizes_are_row_counts.lean ====
abbrev S1536x2048 : Shape := ⟨2, ![1536, 2048]⟩
abbrev S60 : Shape := ⟨1, ![60]⟩
abbrev S60x2x1408x256 : Shape := ⟨4, ![60, 2, 1408, 256]⟩
abbrev S60x2x256x8 : Shape := ⟨4, ![60, 2, 256, 8]⟩
abbrev S60x1408 : Shape := ⟨2, ![60, 1408]⟩
abbrev S_ : Shape := ⟨0, ![]⟩

class Facts : Prop where
  bcast_S_S60 : S_.BroadcastsInDim S60 (![] : Fin 0 → Fin S60.rank)

variable [Facts]

def fn {F : FTy → Type} [FloatOps F] (main_arg0 : FVec F S1536x2048 .bf16) (main_arg1 : IVec S60 32) (main_arg2 : IVec S60x2x1408x256 8) (main_arg3 : IVec S60x2x256x8 16) (main_arg4 : FVec F S60x1408 .f32) : IVec S60 1 :=
  let main_c : IVec S_ 32 := constantI S_ 32 0#32
  let main_v0 : IVec S60 32 := broadcastInDim S60 ![] bcast_S_S60 main_c
  let main_v1 : IVec S60 1 := cmpi .sge main_arg1 main_v0
  let main_c_0 : IVec S_ 32 := constantI S_ 32 1536#32
  let main_v2 : IVec S60 32 := broadcastInDim S60 ![] bcast_S_S60 main_c_0
  let main_v3 : IVec S60 1 := cmpi .sle main_arg1 main_v2
  let main_v4 : IVec S60 1 := andi main_v1 main_v3
  main_v4
-- ==== Kernel.lean ====
abbrev S1536x2048 : Shape := ⟨2, ![1536, 2048]⟩
abbrev S60 : Shape := ⟨1, ![60]⟩
abbrev S60x2x1408x256 : Shape := ⟨4, ![60, 2, 1408, 256]⟩
abbrev S60x2x256x8 : Shape := ⟨4, ![60, 2, 256, 8]⟩
abbrev S60x1408 : Shape := ⟨2, ![60, 1408]⟩
abbrev S1536x256x8 : Shape := ⟨3, ![1536, 256, 8]⟩
abbrev S1536x8x256 : Shape := ⟨3, ![1536, 8, 256]⟩
abbrev S_ : Shape := ⟨0, ![]⟩
abbrev S1 : Shape := ⟨1, ![1]⟩
abbrev S61 : Shape := ⟨1, ![61]⟩
abbrev S60x1 : Shape := ⟨2, ![60, 1]⟩
abbrev S60x2x2x128x4x2 : Shape := ⟨6, ![60, 2, 2, 128, 4, 2]⟩
abbrev S60x2x2x128x4 : Shape := ⟨5, ![60, 2, 2, 128, 4]⟩
abbrev S60x2x4x2x128 : Shape := ⟨5, ![60, 2, 4, 2, 128]⟩
abbrev S60x16x128 : Shape := ⟨3, ![60, 16, 128]⟩
abbrev S60x1x1408 : Shape := ⟨3, ![60, 1, 1408]⟩
abbrev S1536x1408 : Shape := ⟨2, ![1536, 1408]⟩
abbrev S1x2x1408x256 : Shape := ⟨4, ![1, 2, 1408, 256]⟩
abbrev S1x16x128 : Shape := ⟨3, ![1, 16, 128]⟩
abbrev S1x1x1408 : Shape := ⟨3, ![1, 1, 1408]⟩
abbrev S128x2048 : Shape := ⟨2, ![128, 2048]⟩
abbrev S1x1x128 : Shape := ⟨3, ![1, 1, 128]⟩
abbrev S1x128 : Shape := ⟨2, ![1, 128]⟩
abbrev S8x128 : Shape := ⟨2, ![8, 128]⟩
abbrev S1x1x32x128 : Shape := ⟨4, ![1, 1, 32, 128]⟩
abbrev S32x128 : Shape := ⟨2, ![32, 128]⟩
abbrev S2x8x2x128 : Shape := ⟨4, ![2, 8, 2, 128]⟩
abbrev S8x2x2x128 : Shape := ⟨4, ![8, 2, 2, 128]⟩
abbrev S8x128x1 : Shape := ⟨3, ![8, 128, 1]⟩
abbrev S16x128 : Shape := ⟨2, ![16, 128]⟩
abbrev S128x128 : Shape := ⟨2, ![128, 128]⟩

abbrev nBuf : Space → Nat
  | .hbm => 47
  | .vmem => 9
  | .smem => 3
  | _ => 0

abbrev bufTy : (tb : Table) → Fin (tcTables nBuf tb) → BufTy
  | .hbm, ⟨0, _⟩ => ⟨S1536x2048, .bf16⟩
  | .hbm, ⟨1, _⟩ => ⟨S60, .i32⟩
  | .hbm, ⟨2, _⟩ => ⟨S60x2x1408x256, .i8⟩
  | .hbm, ⟨3, _⟩ => ⟨S60x2x256x8, .i16⟩
  | .hbm, ⟨4, _⟩ => ⟨S60x1408, .f32⟩
  | .hbm, ⟨5, _⟩ => ⟨S1536x256x8, .bf16⟩
  | .hbm, ⟨6, _⟩ => ⟨S1536x8x256, .bf16⟩
  | .hbm, ⟨7, _⟩ => ⟨S1536x2048, .bf16⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S60, .i32⟩
  | .hbm, ⟨13, _⟩ => ⟨S_, .i32⟩
  | .hbm, ⟨14, _⟩ => ⟨S60, .i32⟩
  | .hbm, ⟨15, _⟩ => ⟨S60, .i1⟩
  | .hbm, ⟨16, _⟩ => ⟨S60, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S60, .i32⟩
  | .hbm, ⟨21, _⟩ => ⟨S60, .i1⟩
  | .hbm, ⟨22, _⟩ => ⟨S60, .i32⟩
  | .hbm, ⟨23, _⟩ => ⟨S60, .i1⟩
  | .hbm, ⟨24, _⟩ => ⟨S60, .i32⟩
  | .hbm, ⟨25, _⟩ => ⟨S60, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S60, .i32⟩
  | .hbm, ⟨31, _⟩ => ⟨S60, .i32⟩
  | .hbm, ⟨32, _⟩ => ⟨S_, .i32⟩
  | .hbm, ⟨33, _⟩ => ⟨S60, .i32⟩
  | .hbm, ⟨34, _⟩ => ⟨S60, .i1⟩
  | .hbm, ⟨35, _⟩ => ⟨S_, .i32⟩
  | .hbm, ⟨36, _⟩ => ⟨S60, .i32⟩
  | .hbm, ⟨37, _⟩ => ⟨S60, .i32⟩
  | .hbm, ⟨38, _⟩ => ⟨S60, .i32⟩
  | .hbm, ⟨39, _⟩ => ⟨S60x1, .i32⟩
  | .hbm, ⟨40, _⟩ => ⟨S60x2x1408x256, .i8⟩
  | .hbm, ⟨41, _⟩ => ⟨S60x2x2x128x4x2, .i16⟩
  | .hbm, ⟨42, _⟩ => ⟨S60x2x2x128x4, .i32⟩
  | .hbm, ⟨43, _⟩ => ⟨S60x2x4x2x128, .i32⟩
  | .hbm, ⟨44, _⟩ => ⟨S60x16x128, .i32⟩
  | .hbm, ⟨45, _⟩ => ⟨S60x1x1408, .f32⟩
  | .hbm, ⟨46, _⟩ => ⟨S1536x1408, .bf16⟩
  | .local _ .vmem, ⟨0, _⟩ => ⟨S1536x2048, .bf16⟩
  | .local _ .vmem, ⟨1, _⟩ => ⟨S1x2x1408x256, .i8⟩
  | .local _ .vmem, ⟨2, _⟩ => ⟨S1x2x1408x256, .i8⟩
  | .local _ .vmem, ⟨3, _⟩ => ⟨S1x16x128, .i32⟩
  | .local _ .vmem, ⟨4, _⟩ => ⟨S1x16x128, .i32⟩
  | .local _ .vmem, ⟨5, _⟩ => ⟨S1x1x1408, .f32⟩
  | .local _ .vmem, ⟨6, _⟩ => ⟨S1x1x1408, .f32⟩
  | .local _ .vmem, ⟨7, _⟩ => ⟨S1536x1408, .bf16⟩
  | .local _ .vmem, ⟨8, _⟩ => ⟨S128x2048, .bf16⟩
  | .local _ .smem, ⟨0, _⟩ => ⟨S60, .i32⟩
  | .local _ .smem, ⟨1, _⟩ => ⟨S61, .i32⟩
  | .local _ .smem, ⟨2, _⟩ => ⟨S1, .i32⟩
  | _, _ => ⟨S1536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_call0_call0_c : Ref sig .tc := ⟨.hbm, 10, rfl⟩
abbrev main_call0_call0_v0 : Ref sig .tc := ⟨.hbm, 11, rfl⟩
abbrev main_v4 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_v1_0 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v32 : Ref sig .tc := ⟨.hbm, 46, rfl⟩
abbrev main_v24 : Ref sig .tc := ⟨.smem, 0, rfl⟩
abbrev main_v5 : Ref sig .tc := ⟨.smem, 1, rfl⟩
abbrev main_v31 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [BitOps F]

abbrev grid0 : Pipeline.Grid := ⟨1, ![60], ![false]⟩

abbrev pre0 : Pipeline.Prefetch sig := ⟨3, ![main_v24.idx, main_v5.idx, main_v31.idx], fun | 0 => main_v24.names | 1 => main_v5.names | 2 => main_v31.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_off3 (v8 : BitVec 32) : Fin 1 → Nat :=
  let v9 : Index := Scalar.indexCast v8
  ![v9.toNat]
def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def k0_off4 (v8 : BitVec 32) : Fin 1 → Nat :=
  let c1_i32 : BitVec 32 := 1#32
  let v11 : BitVec 32 := Scalar.addi v8 c1_i32
  let v12 : Index := Scalar.indexCast v11
  ![v12.toNat]

def k0_chk1 (i : grid0.Coords) (v3 : BitVec 32) (v8 : BitVec 32) : Prop :=
  (∀ (k0_h2 : k0_cond2 i v3 = 1#1), ∀ a, (k0_off3 v8) a + S1.size a ≤ S61.size a) ∧
  (∀ (k0_h2 : k0_cond2 i v3 = 1#1), ∀ a, (k0_off4 v8) a + S1.size a ≤ S61.size a)
theorem k0_off3_inb : ∀ (i : grid0.Coords) (v3 : BitVec 32) (v8 : BitVec 32) (k0_hw1 : k0_chk1 i v3 v8), ∀ (k0_h2 : k0_cond2 i v3 = 1#1), ∀ a, (k0_off3 v8) a + S1.size a ≤ S61.size a := fun i v3 v8 k0_hw1 k0_h2 => k0_hw1.1 k0_h2
theorem k0_off4_inb : ∀ (i : grid0.Coords) (v3 : BitVec 32) (v8 : BitVec 32) (k0_hw1 : k0_chk1 i v3 v8), ∀ (k0_h2 : k0_cond2 i v3 = 1#1), ∀ a, (k0_off4 v8) a + S1.size a ≤ S61.size a := fun i v3 v8 k0_hw1 k0_h2 => k0_hw1.2 k0_h2

@[reducible] def k0_t1_loop : Scf.Loop 32 :=
  let c0_i32_17 : BitVec 32 := 0#32
  let c11_i32 : BitVec 32 := 11#32
  let v52 : BitVec 32 := Scalar.addi c0_i32_17 c11_i32
  let c1_i32_18 : BitVec 32 := 1#32
  ⟨c0_i32_17, v52, c1_i32_18⟩
def k0_mult1 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  v53
def k0_mult2 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let c0_i32_54 : BitVec 32 := 0#32
  let v119 : BitVec 32 := Scalar.addi v54 c0_i32_54
  v119
def k0_off5 (k0_t1 : Fin k0_t1_loop.trips) (c0_i32_54 : BitVec 32) : Fin 4 → Nat :=
  let c0_55 : Index := 0#32
  let c0_56 : Index := 0#32
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let v119 : BitVec 32 := Scalar.addi v54 c0_i32_54
  let v120 : BitVec 32 := v119
  let v121 : Index := Scalar.indexCast v120
  let c0_57 : Index := 0#32
  ![0, 0, v121.toNat, 0]
def k0_off6 (k0_t1 : Fin k0_t1_loop.trips) (c0_i32_54 : BitVec 32) : Fin 4 → Nat :=
  let c0_58 : Index := 0#32
  let c1_59 : Index := 1#32
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let v119 : BitVec 32 := Scalar.addi v54 c0_i32_54
  let v120 : BitVec 32 := v119
  let v124 : Index := Scalar.indexCast v120
  let c0_60 : Index := 0#32
  ![0, 1, v124.toNat, 0]
def k0_mult3 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let c0_i32_140 : BitVec 32 := 0#32
  let v627 : BitVec 32 := Scalar.addi v54 c0_i32_140
  v627
def k0_off7 (k0_t1 : Fin k0_t1_loop.trips) (c0_i32_140 : BitVec 32) : Fin 4 → Nat :=
  let c0_141 : Index := 0#32
  let c0_142 : Index := 0#32
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let v627 : BitVec 32 := Scalar.addi v54 c0_i32_140
  let v628 : BitVec 32 := v627
  let v629 : Index := Scalar.indexCast v628
  let c128 : Index := 128#32
  ![0, 0, v629.toNat, 128]
def k0_off8 (k0_t1 : Fin k0_t1_loop.trips) (c0_i32_140 : BitVec 32) : Fin 4 → Nat :=
  let c0_143 : Index := 0#32
  let c1_144 : Index := 1#32
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let v627 : BitVec 32 := Scalar.addi v54 c0_i32_140
  let v628 : BitVec 32 := v627
  let v632 : Index := Scalar.indexCast v628
  let c128_145 : Index := 128#32
  ![0, 1, v632.toNat, 128]
def k0_mult4 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let c32_i32 : BitVec 32 := 32#32
  let v1135 : BitVec 32 := Scalar.addi v54 c32_i32
  v1135
def k0_mult5 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let c32_i32_331 : BitVec 32 := 32#32
  let v1643 : BitVec 32 := Scalar.addi v54 c32_i32_331
  v1643
def k0_mult6 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let c64_i32 : BitVec 32 := 64#32
  let v2151 : BitVec 32 := Scalar.addi v54 c64_i32
  v2151
def k0_mult7 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let c64_i32_530 : BitVec 32 := 64#32
  let v2659 : BitVec 32 := Scalar.addi v54 c64_i32_530
  v2659
def k0_mult8 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let c96_i32 : BitVec 32 := 96#32
  let v3167 : BitVec 32 := Scalar.addi v54 c96_i32
  v3167
def k0_mult9 (k0_t1 : Fin k0_t1_loop.trips) : BitVec 32 :=
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let c96_i32_729 : BitVec 32 := 96#32
  let v3675 : BitVec 32 := Scalar.addi v54 c96_i32_729
  v3675
def k0_off9 (k0_t1 : Fin k0_t1_loop.trips) : Fin 3 → Nat :=
  let c0_830 : Index := 0#32
  let c0_831 : Index := 0#32
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let v4183 : Index := Scalar.indexCast v54
  ![0, 0, v4183.toNat]
@[reducible] def k0_t2_loop (v10 : BitVec 32) (v13 : BitVec 32) : Scf.Loop 32 :=
  let c0_i32_832 : BitVec 32 := 0#32
  let c0_i32_2 : BitVec 32 := 0#32
  let v15 : BitVec 1 := Scalar.cmpi .sgt v10 c0_i32_2
  let v16 : BitVec 32 := Scalar.extui v15
  let c0_i32_3 : BitVec 32 := 0#32
  let v17 : BitVec 1 := Scalar.cmpi .slt v10 c0_i32_3
  let v18 : BitVec 32 := Scalar.extui v17
  let v19 : BitVec 32 := Scalar.subi v16 v18
  let c16_i32 : BitVec 32 := 16#32
  let c0_i32_4 : BitVec 32 := 0#32
  let v20 : BitVec 1 := Scalar.cmpi .sgt c16_i32 c0_i32_4
  let v21 : BitVec 32 := Scalar.extui v20
  let c0_i32_5 : BitVec 32 := 0#32
  let v22 : BitVec 1 := Scalar.cmpi .slt c16_i32 c0_i32_5
  let v23 : BitVec 32 := Scalar.extui v22
  let v24 : BitVec 32 := Scalar.subi v21 v23
  let v25 : BitVec 1 := Scalar.cmpi .ne v19 v24
  let v26 : BitVec 32 := Scalar.remsi v10 c16_i32
  let c0_i32_6 : BitVec 32 := 0#32
  let v27 : BitVec 1 := Scalar.cmpi .ne v26 c0_i32_6
  let v28 : BitVec 1 := Scalar.andi v25 v27
  let v14 : BitVec 32 := Scalar.divsi v10 c16_i32
  let c1_i32_7 : BitVec 32 := 1#32
  let v29 : BitVec 32 := Scalar.subi v14 c1_i32_7
  let v30 : BitVec 32 := Scalar.select v28 v29 v14
  let c16_i32_8 : BitVec 32 := 16#32
  let v31 : BitVec 32 := Scalar.muli v30 c16_i32_8
  let v32 : BitVec 32 := Scalar.subi v13 v31
  let c128_i32 : BitVec 32 := 128#32
  let v33 : BitVec 32 := Scalar.addi v32 c128_i32
  let c1_i32_9 : BitVec 32 := 1#32
  let v34 : BitVec 32 := Scalar.subi v33 c1_i32_9
  let c0_i32_11 : BitVec 32 := 0#32
  let v36 : BitVec 1 := Scalar.cmpi .sgt v34 c0_i32_11
  let v37 : BitVec 32 := Scalar.extui v36
  let c0_i32_12 : BitVec 32 := 0#32
  let v38 : BitVec 1 := Scalar.cmpi .slt v34 c0_i32_12
  let v39 : BitVec 32 := Scalar.extui v38
  let v40 : BitVec 32 := Scalar.subi v37 v39
  let c128_i32_10 : BitVec 32 := 128#32
  let c0_i32_13 : BitVec 32 := 0#32
  let v41 : BitVec 1 := Scalar.cmpi .sgt c128_i32_10 c0_i32_13
  let v42 : BitVec 32 := Scalar.extui v41
  let c0_i32_14 : BitVec 32 := 0#32
  let v43 : BitVec 1 := Scalar.cmpi .slt c128_i32_10 c0_i32_14
  let v44 : BitVec 32 := Scalar.extui v43
  let v45 : BitVec 32 := Scalar.subi v42 v44
  let v46 : BitVec 1 := Scalar.cmpi .ne v40 v45
  let v47 : BitVec 32 := Scalar.remsi v34 c128_i32_10
  let c0_i32_15 : BitVec 32 := 0#32
  let v48 : BitVec 1 := Scalar.cmpi .ne v47 c0_i32_15
  let v49 : BitVec 1 := Scalar.andi v46 v48
  let v35 : BitVec 32 := Scalar.divsi v34 c128_i32_10
  let c1_i32_16 : BitVec 32 := 1#32
  let v50 : BitVec 32 := Scalar.subi v35 c1_i32_16
  let v51 : BitVec 32 := Scalar.select v49 v50 v35
  let v4186 : BitVec 32 := Scalar.subi v51 c0_i32_832
  let c1_i32_834 : BitVec 32 := 1#32
  let v4188 : BitVec 32 := Scalar.divsi v4186 c1_i32_834
  let v4189 : BitVec 32 := Scalar.muli v4188 c1_i32_834
  let v4190 : BitVec 32 := Scalar.addi c0_i32_832 v4189
  let c1_i32_835 : BitVec 32 := 1#32
  ⟨c0_i32_832, v4190, c1_i32_835⟩

def k0_mult10 (v10 : BitVec 32) (v13 : BitVec 32) (k0_t2 : Fin (k0_t2_loop v10 v13).trips) : BitVec 32 :=
  let c0_i32_2 : BitVec 32 := 0#32
  let v15 : BitVec 1 := Scalar.cmpi .sgt v10 c0_i32_2
  let v16 : BitVec 32 := Scalar.extui v15
  let c0_i32_3 : BitVec 32 := 0#32
  let v17 : BitVec 1 := Scalar.cmpi .slt v10 c0_i32_3
  let v18 : BitVec 32 := Scalar.extui v17
  let v19 : BitVec 32 := Scalar.subi v16 v18
  let c16_i32 : BitVec 32 := 16#32
  let c0_i32_4 : BitVec 32 := 0#32
  let v20 : BitVec 1 := Scalar.cmpi .sgt c16_i32 c0_i32_4
  let v21 : BitVec 32 := Scalar.extui v20
  let c0_i32_5 : BitVec 32 := 0#32
  let v22 : BitVec 1 := Scalar.cmpi .slt c16_i32 c0_i32_5
  let v23 : BitVec 32 := Scalar.extui v22
  let v24 : BitVec 32 := Scalar.subi v21 v23
  let v25 : BitVec 1 := Scalar.cmpi .ne v19 v24
  let v26 : BitVec 32 := Scalar.remsi v10 c16_i32
  let c0_i32_6 : BitVec 32 := 0#32
  let v27 : BitVec 1 := Scalar.cmpi .ne v26 c0_i32_6
  let v28 : BitVec 1 := Scalar.andi v25 v27
  let v14 : BitVec 32 := Scalar.divsi v10 c16_i32
  let c1_i32_7 : BitVec 32 := 1#32
  let v29 : BitVec 32 := Scalar.subi v14 c1_i32_7
  let v30 : BitVec 32 := Scalar.select v28 v29 v14
  let c16_i32_8 : BitVec 32 := 16#32
  let v31 : BitVec 32 := Scalar.muli v30 c16_i32_8
  let c0_i32_832 : BitVec 32 := 0#32
  let c1_i32_835 : BitVec 32 := 1#32
  let arg11 : BitVec 32 := Scf.iv c0_i32_832 c1_i32_835 k0_t2
  let c128_i32_837 : BitVec 32 := 128#32
  let v4193 : BitVec 32 := Scalar.muli arg11 c128_i32_837
  let v4194 : BitVec 32 := Scalar.addi v31 v4193
  let c1408_i32 : BitVec 32 := 1408#32
  let v4195 : BitVec 32 := Scalar.minsi v4194 c1408_i32
  v4195
def k0_off10 (v10 : BitVec 32) (v13 : BitVec 32) (k0_t2 : Fin (k0_t2_loop v10 v13).trips) : Fin 2 → Nat :=
  let c0_i32_2 : BitVec 32 := 0#32
  let v15 : BitVec 1 := Scalar.cmpi .sgt v10 c0_i32_2
  let v16 : BitVec 32 := Scalar.extui v15
  let c0_i32_3 : BitVec 32 := 0#32
  let v17 : BitVec 1 := Scalar.cmpi .slt v10 c0_i32_3
  let v18 : BitVec 32 := Scalar.extui v17
  let v19 : BitVec 32 := Scalar.subi v16 v18
  let c16_i32 : BitVec 32 := 16#32
  let c0_i32_4 : BitVec 32 := 0#32
  let v20 : BitVec 1 := Scalar.cmpi .sgt c16_i32 c0_i32_4
  let v21 : BitVec 32 := Scalar.extui v20
  let c0_i32_5 : BitVec 32 := 0#32
  let v22 : BitVec 1 := Scalar.cmpi .slt c16_i32 c0_i32_5
  let v23 : BitVec 32 := Scalar.extui v22
  let v24 : BitVec 32 := Scalar.subi v21 v23
  let v25 : BitVec 1 := Scalar.cmpi .ne v19 v24
  let v26 : BitVec 32 := Scalar.remsi v10 c16_i32
  let c0_i32_6 : BitVec 32 := 0#32
  let v27 : BitVec 1 := Scalar.cmpi .ne v26 c0_i32_6
  let v28 : BitVec 1 := Scalar.andi v25 v27
  let v14 : BitVec 32 := Scalar.divsi v10 c16_i32
  let c1_i32_7 : BitVec 32 := 1#32
  let v29 : BitVec 32 := Scalar.subi v14 c1_i32_7
  let v30 : BitVec 32 := Scalar.select v28 v29 v14
  let c16_i32_8 : BitVec 32 := 16#32
  let v31 : BitVec 32 := Scalar.muli v30 c16_i32_8
  let c0_i32_832 : BitVec 32 := 0#32
  let c1_i32_835 : BitVec 32 := 1#32
  let arg11 : BitVec 32 := Scf.iv c0_i32_832 c1_i32_835 k0_t2
  let c128_i32_837 : BitVec 32 := 128#32
  let v4193 : BitVec 32 := Scalar.muli arg11 c128_i32_837
  let v4194 : BitVec 32 := Scalar.addi v31 v4193
  let c1408_i32 : BitVec 32 := 1408#32
  let v4195 : BitVec 32 := Scalar.minsi v4194 c1408_i32
  let v4196 : BitVec 32 := v4195
  let v4197 : Index := Scalar.indexCast v4196
  let c0_838 : Index := 0#32
  ![v4197.toNat, 0]
def k0_off11 (v10 : BitVec 32) (v13 : BitVec 32) (k0_t1 : Fin k0_t1_loop.trips) (k0_t2 : Fin (k0_t2_loop v10 v13).trips) : Fin 2 → Nat :=
  let c0_i32_2 : BitVec 32 := 0#32
  let v15 : BitVec 1 := Scalar.cmpi .sgt v10 c0_i32_2
  let v16 : BitVec 32 := Scalar.extui v15
  let c0_i32_3 : BitVec 32 := 0#32
  let v17 : BitVec 1 := Scalar.cmpi .slt v10 c0_i32_3
  let v18 : BitVec 32 := Scalar.extui v17
  let v19 : BitVec 32 := Scalar.subi v16 v18
  let c16_i32 : BitVec 32 := 16#32
  let c0_i32_4 : BitVec 32 := 0#32
  let v20 : BitVec 1 := Scalar.cmpi .sgt c16_i32 c0_i32_4
  let v21 : BitVec 32 := Scalar.extui v20
  let c0_i32_5 : BitVec 32 := 0#32
  let v22 : BitVec 1 := Scalar.cmpi .slt c16_i32 c0_i32_5
  let v23 : BitVec 32 := Scalar.extui v22
  let v24 : BitVec 32 := Scalar.subi v21 v23
  let v25 : BitVec 1 := Scalar.cmpi .ne v19 v24
  let v26 : BitVec 32 := Scalar.remsi v10 c16_i32
  let c0_i32_6 : BitVec 32 := 0#32
  let v27 : BitVec 1 := Scalar.cmpi .ne v26 c0_i32_6
  let v28 : BitVec 1 := Scalar.andi v25 v27
  let v14 : BitVec 32 := Scalar.divsi v10 c16_i32
  let c1_i32_7 : BitVec 32 := 1#32
  let v29 : BitVec 32 := Scalar.subi v14 c1_i32_7
  let v30 : BitVec 32 := Scalar.select v28 v29 v14
  let c16_i32_8 : BitVec 32 := 16#32
  let v31 : BitVec 32 := Scalar.muli v30 c16_i32_8
  let c0_i32_832 : BitVec 32 := 0#32
  let c1_i32_835 : BitVec 32 := 1#32
  let arg11 : BitVec 32 := Scf.iv c0_i32_832 c1_i32_835 k0_t2
  let c128_i32_837 : BitVec 32 := 128#32
  let v4193 : BitVec 32 := Scalar.muli arg11 c128_i32_837
  let v4194 : BitVec 32 := Scalar.addi v31 v4193
  let c1408_i32 : BitVec 32 := 1408#32
  let v4195 : BitVec 32 := Scalar.minsi v4194 c1408_i32
  let v4196 : BitVec 32 := v4195
  let v4210 : Index := Scalar.indexCast v4196
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let v4211 : Index := Scalar.indexCast v54
  ![v4210.toNat, v4211.toNat]
@[reducible] def k0_t3_loop (v10 : BitVec 32) (v13 : BitVec 32) : Scf.Loop 32 :=
  let c0_i32_832 : BitVec 32 := 0#32
  let c0_i32_2 : BitVec 32 := 0#32
  let v15 : BitVec 1 := Scalar.cmpi .sgt v10 c0_i32_2
  let v16 : BitVec 32 := Scalar.extui v15
  let c0_i32_3 : BitVec 32 := 0#32
  let v17 : BitVec 1 := Scalar.cmpi .slt v10 c0_i32_3
  let v18 : BitVec 32 := Scalar.extui v17
  let v19 : BitVec 32 := Scalar.subi v16 v18
  let c16_i32 : BitVec 32 := 16#32
  let c0_i32_4 : BitVec 32 := 0#32
  let v20 : BitVec 1 := Scalar.cmpi .sgt c16_i32 c0_i32_4
  let v21 : BitVec 32 := Scalar.extui v20
  let c0_i32_5 : BitVec 32 := 0#32
  let v22 : BitVec 1 := Scalar.cmpi .slt c16_i32 c0_i32_5
  let v23 : BitVec 32 := Scalar.extui v22
  let v24 : BitVec 32 := Scalar.subi v21 v23
  let v25 : BitVec 1 := Scalar.cmpi .ne v19 v24
  let v26 : BitVec 32 := Scalar.remsi v10 c16_i32
  let c0_i32_6 : BitVec 32 := 0#32
  let v27 : BitVec 1 := Scalar.cmpi .ne v26 c0_i32_6
  let v28 : BitVec 1 := Scalar.andi v25 v27
  let v14 : BitVec 32 := Scalar.divsi v10 c16_i32
  let c1_i32_7 : BitVec 32 := 1#32
  let v29 : BitVec 32 := Scalar.subi v14 c1_i32_7
  let v30 : BitVec 32 := Scalar.select v28 v29 v14
  let c16_i32_8 : BitVec 32 := 16#32
  let v31 : BitVec 32 := Scalar.muli v30 c16_i32_8
  let v32 : BitVec 32 := Scalar.subi v13 v31
  let c128_i32 : BitVec 32 := 128#32
  let v33 : BitVec 32 := Scalar.addi v32 c128_i32
  let c1_i32_9 : BitVec 32 := 1#32
  let v34 : BitVec 32 := Scalar.subi v33 c1_i32_9
  let c0_i32_11 : BitVec 32 := 0#32
  let v36 : BitVec 1 := Scalar.cmpi .sgt v34 c0_i32_11
  let v37 : BitVec 32 := Scalar.extui v36
  let c0_i32_12 : BitVec 32 := 0#32
  let v38 : BitVec 1 := Scalar.cmpi .slt v34 c0_i32_12
  let v39 : BitVec 32 := Scalar.extui v38
  let v40 : BitVec 32 := Scalar.subi v37 v39
  let c128_i32_10 : BitVec 32 := 128#32
  let c0_i32_13 : BitVec 32 := 0#32
  let v41 : BitVec 1 := Scalar.cmpi .sgt c128_i32_10 c0_i32_13
  let v42 : BitVec 32 := Scalar.extui v41
  let c0_i32_14 : BitVec 32 := 0#32
  let v43 : BitVec 1 := Scalar.cmpi .slt c128_i32_10 c0_i32_14
  let v44 : BitVec 32 := Scalar.extui v43
  let v45 : BitVec 32 := Scalar.subi v42 v44
  let v46 : BitVec 1 := Scalar.cmpi .ne v40 v45
  let v47 : BitVec 32 := Scalar.remsi v34 c128_i32_10
  let c0_i32_15 : BitVec 32 := 0#32
  let v48 : BitVec 1 := Scalar.cmpi .ne v47 c0_i32_15
  let v49 : BitVec 1 := Scalar.andi v46 v48
  let v35 : BitVec 32 := Scalar.divsi v34 c128_i32_10
  let c1_i32_16 : BitVec 32 := 1#32
  let v50 : BitVec 32 := Scalar.subi v35 c1_i32_16
  let v51 : BitVec 32 := Scalar.select v49 v50 v35
  let v4186 : BitVec 32 := Scalar.subi v51 c0_i32_832
  let c1_i32_834 : BitVec 32 := 1#32
  let v4188 : BitVec 32 := Scalar.divsi v4186 c1_i32_834
  let v4189 : BitVec 32 := Scalar.muli v4188 c1_i32_834
  let v4190 : BitVec 32 := Scalar.addi c0_i32_832 v4189
  let v4187 : BitVec 32 := Scalar.addi c0_i32_832 v4186
  let c1_i32_836 : BitVec 32 := 1#32
  ⟨v4190, v4187, c1_i32_836⟩
def k0_mult11 (v10 : BitVec 32) (v13 : BitVec 32) (k0_t3 : Fin (k0_t3_loop v10 v13).trips) : BitVec 32 :=
  let c0_i32_2 : BitVec 32 := 0#32
  let v15 : BitVec 1 := Scalar.cmpi .sgt v10 c0_i32_2
  let v16 : BitVec 32 := Scalar.extui v15
  let c0_i32_3 : BitVec 32 := 0#32
  let v17 : BitVec 1 := Scalar.cmpi .slt v10 c0_i32_3
  let v18 : BitVec 32 := Scalar.extui v17
  let v19 : BitVec 32 := Scalar.subi v16 v18
  let c16_i32 : BitVec 32 := 16#32
  let c0_i32_4 : BitVec 32 := 0#32
  let v20 : BitVec 1 := Scalar.cmpi .sgt c16_i32 c0_i32_4
  let v21 : BitVec 32 := Scalar.extui v20
  let c0_i32_5 : BitVec 32 := 0#32
  let v22 : BitVec 1 := Scalar.cmpi .slt c16_i32 c0_i32_5
  let v23 : BitVec 32 := Scalar.extui v22
  let v24 : BitVec 32 := Scalar.subi v21 v23
  let v25 : BitVec 1 := Scalar.cmpi .ne v19 v24
  let v26 : BitVec 32 := Scalar.remsi v10 c16_i32
  let c0_i32_6 : BitVec 32 := 0#32
  let v27 : BitVec 1 := Scalar.cmpi .ne v26 c0_i32_6
  let v28 : BitVec 1 := Scalar.andi v25 v27
  let v14 : BitVec 32 := Scalar.divsi v10 c16_i32
  let c1_i32_7 : BitVec 32 := 1#32
  let v29 : BitVec 32 := Scalar.subi v14 c1_i32_7
  let v30 : BitVec 32 := Scalar.select v28 v29 v14
  let c16_i32_8 : BitVec 32 := 16#32
  let v31 : BitVec 32 := Scalar.muli v30 c16_i32_8
  let c0_i32_832 : BitVec 32 := 0#32
  let v32 : BitVec 32 := Scalar.subi v13 v31
  let c128_i32 : BitVec 32 := 128#32
  let v33 : BitVec 32 := Scalar.addi v32 c128_i32
  let c1_i32_9 : BitVec 32 := 1#32
  let v34 : BitVec 32 := Scalar.subi v33 c1_i32_9
  let c0_i32_11 : BitVec 32 := 0#32
  let v36 : BitVec 1 := Scalar.cmpi .sgt v34 c0_i32_11
  let v37 : BitVec 32 := Scalar.extui v36
  let c0_i32_12 : BitVec 32 := 0#32
  let v38 : BitVec 1 := Scalar.cmpi .slt v34 c0_i32_12
  let v39 : BitVec 32 := Scalar.extui v38
  let v40 : BitVec 32 := Scalar.subi v37 v39
  let c128_i32_10 : BitVec 32 := 128#32
  let c0_i32_13 : BitVec 32 := 0#32
  let v41 : BitVec 1 := Scalar.cmpi .sgt c128_i32_10 c0_i32_13
  let v42 : BitVec 32 := Scalar.extui v41
  let c0_i32_14 : BitVec 32 := 0#32
  let v43 : BitVec 1 := Scalar.cmpi .slt c128_i32_10 c0_i32_14
  let v44 : BitVec 32 := Scalar.extui v43
  let v45 : BitVec 32 := Scalar.subi v42 v44
  let v46 : BitVec 1 := Scalar.cmpi .ne v40 v45
  let v47 : BitVec 32 := Scalar.remsi v34 c128_i32_10
  let c0_i32_15 : BitVec 32 := 0#32
  let v48 : BitVec 1 := Scalar.cmpi .ne v47 c0_i32_15
  let v49 : BitVec 1 := Scalar.andi v46 v48
  let v35 : BitVec 32 := Scalar.divsi v34 c128_i32_10
  let c1_i32_16 : BitVec 32 := 1#32
  let v50 : BitVec 32 := Scalar.subi v35 c1_i32_16
  let v51 : BitVec 32 := Scalar.select v49 v50 v35
  let v4186 : BitVec 32 := Scalar.subi v51 c0_i32_832
  let c1_i32_834 : BitVec 32 := 1#32
  let v4188 : BitVec 32 := Scalar.divsi v4186 c1_i32_834
  let v4189 : BitVec 32 := Scalar.muli v4188 c1_i32_834
  let v4190 : BitVec 32 := Scalar.addi c0_i32_832 v4189
  let c1_i32_836 : BitVec 32 := 1#32
  let arg11 : BitVec 32 := Scf.iv v4190 c1_i32_836 k0_t3
  let c128_i32_837 : BitVec 32 := 128#32
  let v4193 : BitVec 32 := Scalar.muli arg11 c128_i32_837
  let v4194 : BitVec 32 := Scalar.addi v31 v4193
  let c1408_i32 : BitVec 32 := 1408#32
  let v4195 : BitVec 32 := Scalar.minsi v4194 c1408_i32
  v4195
def k0_off12 (v10 : BitVec 32) (v13 : BitVec 32) (k0_t3 : Fin (k0_t3_loop v10 v13).trips) : Fin 2 → Nat :=
  let c0_i32_2 : BitVec 32 := 0#32
  let v15 : BitVec 1 := Scalar.cmpi .sgt v10 c0_i32_2
  let v16 : BitVec 32 := Scalar.extui v15
  let c0_i32_3 : BitVec 32 := 0#32
  let v17 : BitVec 1 := Scalar.cmpi .slt v10 c0_i32_3
  let v18 : BitVec 32 := Scalar.extui v17
  let v19 : BitVec 32 := Scalar.subi v16 v18
  let c16_i32 : BitVec 32 := 16#32
  let c0_i32_4 : BitVec 32 := 0#32
  let v20 : BitVec 1 := Scalar.cmpi .sgt c16_i32 c0_i32_4
  let v21 : BitVec 32 := Scalar.extui v20
  let c0_i32_5 : BitVec 32 := 0#32
  let v22 : BitVec 1 := Scalar.cmpi .slt c16_i32 c0_i32_5
  let v23 : BitVec 32 := Scalar.extui v22
  let v24 : BitVec 32 := Scalar.subi v21 v23
  let v25 : BitVec 1 := Scalar.cmpi .ne v19 v24
  let v26 : BitVec 32 := Scalar.remsi v10 c16_i32
  let c0_i32_6 : BitVec 32 := 0#32
  let v27 : BitVec 1 := Scalar.cmpi .ne v26 c0_i32_6
  let v28 : BitVec 1 := Scalar.andi v25 v27
  let v14 : BitVec 32 := Scalar.divsi v10 c16_i32
  let c1_i32_7 : BitVec 32 := 1#32
  let v29 : BitVec 32 := Scalar.subi v14 c1_i32_7
  let v30 : BitVec 32 := Scalar.select v28 v29 v14
  let c16_i32_8 : BitVec 32 := 16#32
  let v31 : BitVec 32 := Scalar.muli v30 c16_i32_8
  let c0_i32_832 : BitVec 32 := 0#32
  let v32 : BitVec 32 := Scalar.subi v13 v31
  let c128_i32 : BitVec 32 := 128#32
  let v33 : BitVec 32 := Scalar.addi v32 c128_i32
  let c1_i32_9 : BitVec 32 := 1#32
  let v34 : BitVec 32 := Scalar.subi v33 c1_i32_9
  let c0_i32_11 : BitVec 32 := 0#32
  let v36 : BitVec 1 := Scalar.cmpi .sgt v34 c0_i32_11
  let v37 : BitVec 32 := Scalar.extui v36
  let c0_i32_12 : BitVec 32 := 0#32
  let v38 : BitVec 1 := Scalar.cmpi .slt v34 c0_i32_12
  let v39 : BitVec 32 := Scalar.extui v38
  let v40 : BitVec 32 := Scalar.subi v37 v39
  let c128_i32_10 : BitVec 32 := 128#32
  let c0_i32_13 : BitVec 32 := 0#32
  let v41 : BitVec 1 := Scalar.cmpi .sgt c128_i32_10 c0_i32_13
  let v42 : BitVec 32 := Scalar.extui v41
  let c0_i32_14 : BitVec 32 := 0#32
  let v43 : BitVec 1 := Scalar.cmpi .slt c128_i32_10 c0_i32_14
  let v44 : BitVec 32 := Scalar.extui v43
  let v45 : BitVec 32 := Scalar.subi v42 v44
  let v46 : BitVec 1 := Scalar.cmpi .ne v40 v45
  let v47 : BitVec 32 := Scalar.remsi v34 c128_i32_10
  let c0_i32_15 : BitVec 32 := 0#32
  let v48 : BitVec 1 := Scalar.cmpi .ne v47 c0_i32_15
  let v49 : BitVec 1 := Scalar.andi v46 v48
  let v35 : BitVec 32 := Scalar.divsi v34 c128_i32_10
  let c1_i32_16 : BitVec 32 := 1#32
  let v50 : BitVec 32 := Scalar.subi v35 c1_i32_16
  let v51 : BitVec 32 := Scalar.select v49 v50 v35
  let v4186 : BitVec 32 := Scalar.subi v51 c0_i32_832
  let c1_i32_834 : BitVec 32 := 1#32
  let v4188 : BitVec 32 := Scalar.divsi v4186 c1_i32_834
  let v4189 : BitVec 32 := Scalar.muli v4188 c1_i32_834
  let v4190 : BitVec 32 := Scalar.addi c0_i32_832 v4189
  let c1_i32_836 : BitVec 32 := 1#32
  let arg11 : BitVec 32 := Scf.iv v4190 c1_i32_836 k0_t3
  let c128_i32_837 : BitVec 32 := 128#32
  let v4193 : BitVec 32 := Scalar.muli arg11 c128_i32_837
  let v4194 : BitVec 32 := Scalar.addi v31 v4193
  let c1408_i32 : BitVec 32 := 1408#32
  let v4195 : BitVec 32 := Scalar.minsi v4194 c1408_i32
  let v4196 : BitVec 32 := v4195
  let v4197 : Index := Scalar.indexCast v4196
  let c0_838 : Index := 0#32
  ![v4197.toNat, 0]
def k0_off13 (v10 : BitVec 32) (v13 : BitVec 32) (k0_t1 : Fin k0_t1_loop.trips) (k0_t3 : Fin (k0_t3_loop v10 v13).trips) : Fin 2 → Nat :=
  let c0_i32_2 : BitVec 32 := 0#32
  let v15 : BitVec 1 := Scalar.cmpi .sgt v10 c0_i32_2
  let v16 : BitVec 32 := Scalar.extui v15
  let c0_i32_3 : BitVec 32 := 0#32
  let v17 : BitVec 1 := Scalar.cmpi .slt v10 c0_i32_3
  let v18 : BitVec 32 := Scalar.extui v17
  let v19 : BitVec 32 := Scalar.subi v16 v18
  let c16_i32 : BitVec 32 := 16#32
  let c0_i32_4 : BitVec 32 := 0#32
  let v20 : BitVec 1 := Scalar.cmpi .sgt c16_i32 c0_i32_4
  let v21 : BitVec 32 := Scalar.extui v20
  let c0_i32_5 : BitVec 32 := 0#32
  let v22 : BitVec 1 := Scalar.cmpi .slt c16_i32 c0_i32_5
  let v23 : BitVec 32 := Scalar.extui v22
  let v24 : BitVec 32 := Scalar.subi v21 v23
  let v25 : BitVec 1 := Scalar.cmpi .ne v19 v24
  let v26 : BitVec 32 := Scalar.remsi v10 c16_i32
  let c0_i32_6 : BitVec 32 := 0#32
  let v27 : BitVec 1 := Scalar.cmpi .ne v26 c0_i32_6
  let v28 : BitVec 1 := Scalar.andi v25 v27
  let v14 : BitVec 32 := Scalar.divsi v10 c16_i32
  let c1_i32_7 : BitVec 32 := 1#32
  let v29 : BitVec 32 := Scalar.subi v14 c1_i32_7
  let v30 : BitVec 32 := Scalar.select v28 v29 v14
  let c16_i32_8 : BitVec 32 := 16#32
  let v31 : BitVec 32 := Scalar.muli v30 c16_i32_8
  let c0_i32_832 : BitVec 32 := 0#32
  let v32 : BitVec 32 := Scalar.subi v13 v31
  let c128_i32 : BitVec 32 := 128#32
  let v33 : BitVec 32 := Scalar.addi v32 c128_i32
  let c1_i32_9 : BitVec 32 := 1#32
  let v34 : BitVec 32 := Scalar.subi v33 c1_i32_9
  let c0_i32_11 : BitVec 32 := 0#32
  let v36 : BitVec 1 := Scalar.cmpi .sgt v34 c0_i32_11
  let v37 : BitVec 32 := Scalar.extui v36
  let c0_i32_12 : BitVec 32 := 0#32
  let v38 : BitVec 1 := Scalar.cmpi .slt v34 c0_i32_12
  let v39 : BitVec 32 := Scalar.extui v38
  let v40 : BitVec 32 := Scalar.subi v37 v39
  let c128_i32_10 : BitVec 32 := 128#32
  let c0_i32_13 : BitVec 32 := 0#32
  let v41 : BitVec 1 := Scalar.cmpi .sgt c128_i32_10 c0_i32_13
  let v42 : BitVec 32 := Scalar.extui v41
  let c0_i32_14 : BitVec 32 := 0#32
  let v43 : BitVec 1 := Scalar.cmpi .slt c128_i32_10 c0_i32_14
  let v44 : BitVec 32 := Scalar.extui v43
  let v45 : BitVec 32 := Scalar.subi v42 v44
  let v46 : BitVec 1 := Scalar.cmpi .ne v40 v45
  let v47 : BitVec 32 := Scalar.remsi v34 c128_i32_10
  let c0_i32_15 : BitVec 32 := 0#32
  let v48 : BitVec 1 := Scalar.cmpi .ne v47 c0_i32_15
  let v49 : BitVec 1 := Scalar.andi v46 v48
  let v35 : BitVec 32 := Scalar.divsi v34 c128_i32_10
  let c1_i32_16 : BitVec 32 := 1#32
  let v50 : BitVec 32 := Scalar.subi v35 c1_i32_16
  let v51 : BitVec 32 := Scalar.select v49 v50 v35
  let v4186 : BitVec 32 := Scalar.subi v51 c0_i32_832
  let c1_i32_834 : BitVec 32 := 1#32
  let v4188 : BitVec 32 := Scalar.divsi v4186 c1_i32_834
  let v4189 : BitVec 32 := Scalar.muli v4188 c1_i32_834
  let v4190 : BitVec 32 := Scalar.addi c0_i32_832 v4189
  let c1_i32_836 : BitVec 32 := 1#32
  let arg11 : BitVec 32 := Scf.iv v4190 c1_i32_836 k0_t3
  let c128_i32_837 : BitVec 32 := 128#32
  let v4193 : BitVec 32 := Scalar.muli arg11 c128_i32_837
  let v4194 : BitVec 32 := Scalar.addi v31 v4193
  let c1408_i32 : BitVec 32 := 1408#32
  let v4195 : BitVec 32 := Scalar.minsi v4194 c1408_i32
  let v4196 : BitVec 32 := v4195
  let v4210 : Index := Scalar.indexCast v4196
  let c0_i32_17 : BitVec 32 := 0#32
  let c1_i32_18 : BitVec 32 := 1#32
  let arg10 : BitVec 32 := Scf.iv c0_i32_17 c1_i32_18 k0_t1
  let c128_i32_20 : BitVec 32 := 128#32
  let v53 : BitVec 32 := Scalar.muli arg10 c128_i32_20
  let v54 : BitVec 32 := v53
  let v4211 : Index := Scalar.indexCast v54
  ![v4210.toNat, v4211.toNat]

def k0_chk2 (i : grid0.Coords) (v3 : BitVec 32) (v10 : BitVec 32) (v13 : BitVec 32) : Prop :=
  (∀ (k0_h2 : k0_cond2 i v3 = 1#1), (k0_t2_loop v10 v13).OK) ∧
  (∀ k0_t2 : Fin (k0_t2_loop v10 v13).trips, ∀ (k0_h2 : k0_cond2 i v3 = 1#1), 16 ∣ (k0_mult10 v10 v13 k0_t2).toNat) ∧
  (∀ k0_t2 : Fin (k0_t2_loop v10 v13).trips, ∀ (k0_h2 : k0_cond2 i v3 = 1#1), ∀ a, (k0_off10 v10 v13 k0_t2) a + S128x2048.size a ≤ S1536x2048.size a) ∧
  (∀ (k0_t1 : Fin k0_t1_loop.trips) (k0_t2 : Fin (k0_t2_loop v10 v13).trips), ∀ (k0_h2 : k0_cond2 i v3 = 1#1), ∀ a, (k0_off11 v10 v13 k0_t1 k0_t2) a + S128x128.size a ≤ S1536x1408.size a) ∧
  (∀ (k0_t1 : Fin k0_t1_loop.trips) (k0_t2 : Fin (k0_t2_loop v10 v13).trips), ∀ (k0_h2 : k0_cond2 i v3 = 1#1), ∀ (hinb : ∀ a, (k0_off11 v10 v13 k0_t1 k0_t2) a + S128x128.size a ≤ S1536x1408.size a), (Rect.unit (s := S1536x1408) (k0_off11 v10 v13 k0_t1 k0_t2) S128x128.size hinb).PackedRows (EltTy.packing .bf16)) ∧
  (∀ (k0_h2 : k0_cond2 i v3 = 1#1), (k0_t3_loop v10 v13).OK) ∧
  (∀ k0_t3 : Fin (k0_t3_loop v10 v13).trips, ∀ (k0_h2 : k0_cond2 i v3 = 1#1), 16 ∣ (k0_mult11 v10 v13 k0_t3).toNat) ∧
  (∀ k0_t3 : Fin (k0_t3_loop v10 v13).trips, ∀ (k0_h2 : k0_cond2 i v3 = 1#1), ∀ a, (k0_off12 v10 v13 k0_t3) a + S128x2048.size a ≤ S1536x2048.size a) ∧
  (∀ (k0_t1 : Fin k0_t1_loop.trips) (k0_t3 : Fin (k0_t3_loop v10 v13).trips), ∀ (k0_h2 : k0_cond2 i v3 = 1#1), ∀ a, (k0_off13 v10 v13 k0_t1 k0_t3) a + S128x128.size a ≤ S1536x1408.size a) ∧
  (∀ (k0_t1 : Fin k0_t1_loop.trips) (k0_t3 : Fin (k0_t3_loop v10 v13).trips), ∀ (k0_h2 : k0_cond2 i v3 = 1#1), ∀ (hinb : ∀ a, (k0_off13 v10 v13 k0_t1 k0_t3) a + S128x128.size a ≤ S1536x1408.size a), (Rect.unit (s := S1536x1408) (k0_off13 v10 v13 k0_t1 k0_t3) S128x128.size hinb).PackedRows (EltTy.packing .bf16))
theorem k0_t2_ok : ∀ (i : grid0.Coords) (v3 : BitVec 32) (v10 : BitVec 32) (v13 : BitVec 32) (k0_hw2 : k0_chk2 i v3 v10 v13), ∀ (k0_h2 : k0_cond2 i v3 = 1#1), (k0_t2_loop v10 v13).OK := fun i v3 v10 v13 k0_hw2 k0_h2 => k0_hw2.1 k0_h2
theorem k0_mult10_dvd : ∀ (i : grid0.Coords) (v3 : BitVec 32) (v10 : BitVec 32) (v13 : BitVec 32) (k0_hw2 : k0_chk2 i v3 v10 v13) (k0_t2 : Fin (k0_t2_loop v10 v13).trips), ∀ (k0_h2 : k0_cond2 i v3 = 1#1), 16 ∣ (k0_mult10 v10 v13 k0_t2).toNat := fun i v3 v10 v13 k0_hw2 k0_t2 k0_h2 => k0_hw2.2.1 k0_t2 k0_h2
theorem k0_off10_inb : ∀ (i : grid0.Coords) (v3 : BitVec 32) (v10 : BitVec 32) (v13 : BitVec 32) (k0_hw2 : k0_chk2 i v3 v10 v13) (k0_t2 : Fin (k0_t2_loop v10 v13).trips), ∀ (k0_h2 : k0_cond2 i v3 = 1#1), ∀ a, (k0_off10 v10 v13 k0_t2) a + S128x2048.size a ≤ S1536x2048.size a := fun i v3 v10 v13 k0_hw2 k0_t2 k0_h2 => k0_hw2.2.2.1 k0_t2 k0_h2
theorem k0_off11_inb : ∀ (i : grid0.Coords) (v3 : BitVec 32) (v10 : BitVec 32) (v13 : BitVec 32) (k0_hw2 : k0_chk2 i v3 v10 v13) (k0_t1 : Fin k0_t1_loop.trips) (k0_t2 : Fin (k0_t2_loop v10 v13).trips), ∀ (k0_h2 : k0_cond2 i v3 = 1#1), ∀ a, (k0_off11 v10 v13 k0_t1 k0_t2) a + S128x128.size a ≤ S1536x1408.size a := fun i v3 v10 v13 k0_hw2 k0_t1 k0_t2 k0_h2 => k0_hw2.2.2.2.1 k0_t1 k0_t2 k0_h2
theorem k0_off11_packedbf16 : ∀ (i : grid0.Coords) (v3 : BitVec 32) (v10 : BitVec 32) (v13 : BitVec 32) (k0_hw2 : k0_chk2 i v3 v10 v13) (k0_t1 : Fin k0_t1_loop.trips) (k0_t2 : Fin (k0_t2_loop v10 v13).trips), ∀ (k0_h2 : k0_cond2 i v3 = 1#1), (Rect.unit (s := S1536x1408) (k0_off11 v10 v13 k0_t1 k0_t2) S128x128.size (k0_off11_inb i v3 v10 v13 k0_hw2 k0_t1 k0_t2 k0_h2)).PackedRows (EltTy.packing .bf16) := fun i v3 v10 v13 k0_hw2 k0_t1 k0_t2 k0_h2 => k0_hw2.2.2.2.2.1 k0_t1 k0_t2 k0_h2 (k0_off11_inb i v3 v10 v13 k0_hw2 k0_t1 k0_t2 k0_h2)
theorem k0_t3_ok : ∀ (i : grid0.Coords) (v3 : BitVec 32) (v10 : BitVec 32) (v13 : BitVec 32) (k0_hw2 : k0_chk2 i v3 v10 v13), ∀ (k0_h2 : k0_cond2 i v3 = 1#1), (k0_t3_loop v10 v13).OK := fun i v3 v10 v13 k0_hw2 k0_h2 => k0_hw2.2.2.2.2.2.1 k0_h2
theorem k0_mult11_dvd : ∀ (i : grid0.Coords) (v3 : BitVec 32) (v10 : BitVec 32) (v13 : BitVec 32) (k0_hw2 : k0_chk2 i v3 v10 v13) (k0_t3 : Fin (k0_t3_loop v10 v13).trips), ∀ (k0_h2 : k0_cond2 i v3 = 1#1), 16 ∣ (k0_mult11 v10 v13 k0_t3).toNat := fun i v3 v10 v13 k0_hw2 k0_t3 k0_h2 => k0_hw2.2.2.2.2.2.2.1 k0_t3 k0_h2
theorem k0_off12_inb : ∀ (i : grid0.Coords) (v3 : BitVec 32) (v10 : BitVec 32) (v13 : BitVec 32) (k0_hw2 : k0_chk2 i v3 v10 v13) (k0_t3 : Fin (k0_t3_loop v10 v13).trips), ∀ (k0_h2 : k0_cond2 i v3 = 1#1), ∀ a, (k0_off12 v10 v13 k0_t3) a + S128x2048.size a ≤ S1536x2048.size a := fun i v3 v10 v13 k0_hw2 k0_t3 k0_h2 => k0_hw2.2.2.2.2.2.2.2.1 k0_t3 k0_h2
theorem k0_off13_inb : ∀ (i : grid0.Coords) (v3 : BitVec 32) (v10 : BitVec 32) (v13 : BitVec 32) (k0_hw2 : k0_chk2 i v3 v10 v13) (k0_t1 : Fin k0_t1_loop.trips) (k0_t3 : Fin (k0_t3_loop v10 v13).trips), ∀ (k0_h2 : k0_cond2 i v3 = 1#1), ∀ a, (k0_off13 v10 v13 k0_t1 k0_t3) a + S128x128.size a ≤ S1536x1408.size a := fun i v3 v10 v13 k0_hw2 k0_t1 k0_t3 k0_h2 => k0_hw2.2.2.2.2.2.2.2.2.1 k0_t1 k0_t3 k0_h2
theorem k0_off13_packedbf16 : ∀ (i : grid0.Coords) (v3 : BitVec 32) (v10 : BitVec 32) (v13 : BitVec 32) (k0_hw2 : k0_chk2 i v3 v10 v13) (k0_t1 : Fin k0_t1_loop.trips) (k0_t3 : Fin (k0_t3_loop v10 v13).trips), ∀ (k0_h2 : k0_cond2 i v3 = 1#1), (Rect.unit (s := S1536x1408) (k0_off13 v10 v13 k0_t1 k0_t3) S128x128.size (k0_off13_inb i v3 v10 v13 k0_hw2 k0_t1 k0_t3 k0_h2)).PackedRows (EltTy.packing .bf16) := fun i v3 v10 v13 k0_hw2 k0_t1 k0_t3 k0_h2 => k0_hw2.2.2.2.2.2.2.2.2.2 k0_t1 k0_t3 k0_h2 (k0_off13_inb i v3 v10 v13 k0_hw2 k0_t1 k0_t3 k0_h2)

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S60.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S60) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S60.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S60) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S60.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S60) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x1408x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F]
-- ==== ReferenceIdeal.lean ====
abbrev S1536x2048 : Shape := ⟨2, ![1536, 2048]⟩
abbrev S60 : Shape := ⟨1, ![60]⟩
abbrev S60x2x1408x256 : Shape := ⟨4, ![60, 2, 1408, 256]⟩
abbrev S60x2x256x8 : Shape := ⟨4, ![60, 2, 256, 8]⟩
abbrev S60x1408 : Shape := ⟨2, ![60, 1408]⟩
abbrev S60x1x1x1 : Shape := ⟨4, ![60, 1, 1, 1]⟩
abbrev S2 : Shape := ⟨1, ![2]⟩
abbrev S1x2x1x1 : Shape := ⟨4, ![1, 2, 1, 1]⟩
abbrev S_ : Shape := ⟨0, ![]⟩
abbrev S60x2x1408x256x1 : Shape := ⟨5, ![60, 2, 1408, 256, 1]⟩
abbrev S60x2x1408x256x3 : Shape := ⟨5, ![60, 2, 1408, 256, 3]⟩
abbrev S60x2x1408x256x8 : Shape := ⟨5, ![60, 2, 1408, 256, 8]⟩
abbrev S60x1x1408x256x8 : Shape := ⟨5, ![60, 1, 1408, 256, 8]⟩
abbrev S60x1408x256x8 : Shape := ⟨4, ![60, 1408, 256, 8]⟩
abbrev S60x1408x2048 : Shape := ⟨3, ![60, 1408, 2048]⟩
abbrev S60x2048x1408 : Shape := ⟨3, ![60, 2048, 1408]⟩
abbrev S1536 : Shape := ⟨1, ![1536]⟩
abbrev S1x60 : Shape := ⟨2, ![1, 60]⟩
abbrev S1536x1 : Shape := ⟨2, ![1536, 1]⟩
abbrev S1536x60 : Shape := ⟨2, ![1536, 60]⟩
abbrev S1536x2048x1408 : Shape := ⟨3, ![1536, 2048, 1408]⟩
abbrev S1536x1408 : Shape := ⟨2, ![1536, 1408]⟩

abbrev nBuf : Space → Nat
  | .hbm => 92
  | .vmem => 0
  | .smem => 0
  | _ => 0

abbrev bufTy : (tb : Table) → Fin (tcTables nBuf tb) → BufTy
  | .hbm, ⟨0, _⟩ => ⟨S1536x2048, .bf16⟩
  | .hbm, ⟨1, _⟩ => ⟨S60, .i32⟩
  | .hbm, ⟨2, _⟩ => ⟨S60x2x1408x256, .i8⟩
  | .hbm, ⟨3, _⟩ => ⟨S60x2x256x8, .i16⟩
  | .hbm, ⟨4, _⟩ => ⟨S60x1408, .f32⟩
  | .hbm, ⟨5, _⟩ => ⟨S60x2x256x8, .bf16⟩
  | .hbm, ⟨6, _⟩ => ⟨S60, .i32⟩
  | .hbm, ⟨7, _⟩ => ⟨S60x1x1x1, .i32⟩
  | .hbm, ⟨8, _⟩ => ⟨S2, .i32⟩
  | .hbm, ⟨9, _⟩ => ⟨S1x2x1x1, .i32⟩
  | .hbm, ⟨10, _⟩ => ⟨S60x2x1408x256, .i32⟩
  | .hbm, ⟨11, _⟩ => ⟨S_, .i32⟩
  | .hbm, ⟨12, _⟩ => ⟨S60x1x1x1, .i32⟩
  | .hbm, ⟨13, _⟩ => ⟨S60x1x1x1, .i1⟩
  | .hbm, ⟨14, _⟩ => ⟨S_, .i32⟩
  | .hbm, ⟨15, _⟩ => ⟨S60x1x1x1, .i32⟩
  | .hbm, ⟨16, _⟩ => ⟨S60x1x1x1, .i32⟩
  | .hbm, ⟨17, _⟩ => ⟨S60x1x1x1, .i32⟩
  | .hbm, ⟨18, _⟩ => ⟨S_, .i32⟩
  | .hbm, ⟨19, _⟩ => ⟨S1x2x1x1, .i32⟩
  | .hbm, ⟨20, _⟩ => ⟨S1x2x1x1, .i1⟩
  | .hbm, ⟨21, _⟩ => ⟨S_, .i32⟩
  | .hbm, ⟨22, _⟩ => ⟨S1x2x1x1, .i32⟩
  | .hbm, ⟨23, _⟩ => ⟨S1x2x1x1, .i32⟩
  | .hbm, ⟨24, _⟩ => ⟨S1x2x1x1, .i32⟩
  | .hbm, ⟨25, _⟩ => ⟨S_, .i32⟩
  | .hbm, ⟨26, _⟩ => ⟨S60x2x1408x256, .i32⟩
  | .hbm, ⟨27, _⟩ => ⟨S60x2x1408x256, .i1⟩
  | .hbm, ⟨28, _⟩ => ⟨S_, .i32⟩
  | .hbm, ⟨29, _⟩ => ⟨S60x2x1408x256, .i32⟩
  | .hbm, ⟨30, _⟩ => ⟨S60x2x1408x256, .i32⟩
  | .hbm, ⟨31, _⟩ => ⟨S60x2x1408x256, .i32⟩
  | .hbm, ⟨32, _⟩ => ⟨S60x2x1408x256, .i32⟩
  | .hbm, ⟨33, _⟩ => ⟨S60x2x1408x256, .i32⟩
  | .hbm, ⟨34, _⟩ => ⟨S60x2x1408x256x1, .i32⟩
  | .hbm, ⟨35, _⟩ => ⟨S60x2x1408x256x1, .i32⟩
  | .hbm, ⟨36, _⟩ => ⟨S60x2x1408x256x1, .i32⟩
  | .hbm, ⟨37, _⟩ => ⟨S60x2x1408x256x3, .i32⟩
  | .hbm, ⟨38, _⟩ => ⟨S60x2x1408x256x8, .bf16⟩
  | .hbm, ⟨39, _⟩ => ⟨S60x1x1408x256x8, .bf16⟩
  | .hbm, ⟨40, _⟩ => ⟨S60x1408x256x8, .bf16⟩
  | .hbm, ⟨41, _⟩ => ⟨S60x1408x256x8, .f32⟩
  | .hbm, ⟨42, _⟩ => ⟨S60x1x1408x256x8, .bf16⟩
  | .hbm, ⟨43, _⟩ => ⟨S60x1408x256x8, .bf16⟩
  | .hbm, ⟨44, _⟩ => ⟨S60x1408x256x8, .f32⟩
  | .hbm, ⟨45, _⟩ => ⟨S60x1408x256x8, .f32⟩
  | .hbm, ⟨46, _⟩ => ⟨S60x1408x256x8, .bf16⟩
  | .hbm, ⟨47, _⟩ => ⟨S60x1408x2048, .bf16⟩
  | .hbm, ⟨48, _⟩ => ⟨S60x2048x1408, .bf16⟩
  | .hbm, ⟨49, _⟩ => ⟨S_, .i32⟩
  | .hbm, ⟨50, _⟩ => ⟨S_, .i32⟩
  | .hbm, ⟨51, _⟩ => ⟨S60, .i32⟩
  | .hbm, ⟨52, _⟩ => ⟨S1536, .i32⟩
  | .hbm, ⟨53, _⟩ => ⟨S1x60, .i32⟩
  | .hbm, ⟨54, _⟩ => ⟨S1536x1, .i32⟩
  | .hbm, ⟨55, _⟩ => ⟨S1536x60, .i32⟩
  | .hbm, ⟨56, _⟩ => ⟨S1536x60, .i32⟩
  | .hbm, ⟨57, _⟩ => ⟨S1536x60, .i1⟩
  | .hbm, ⟨58, _⟩ => ⟨S1536x60, .i32⟩
  | .hbm, ⟨59, _⟩ => ⟨S_, .i32⟩
  | .hbm, ⟨60, _⟩ => ⟨S1536, .i32⟩
  | .hbm, ⟨61, _⟩ => ⟨S_, .i32⟩
  | .hbm, ⟨62, _⟩ => ⟨S1536, .i32⟩
  | .hbm, ⟨63, _⟩ => ⟨S1536, .i1⟩
  | .hbm, ⟨64, _⟩ => ⟨S_, .i32⟩
  | .hbm, ⟨65, _⟩ => ⟨S1536, .i32⟩
  | .hbm, ⟨66, _⟩ => ⟨S1536, .i32⟩
  | .hbm, ⟨67, _⟩ => ⟨S1536, .i32⟩
  | .hbm, ⟨68, _⟩ => ⟨S1536x1, .i32⟩
  | .hbm, ⟨69, _⟩ => ⟨S1536x2048x1408, .bf16⟩
  | .hbm, ⟨70, _⟩ => ⟨S1536x1408, .f32⟩
  | .hbm, ⟨71, _⟩ => ⟨S_, .i32⟩
  | .hbm, ⟨72, _⟩ => ⟨S_, .i32⟩
  | .hbm, ⟨73, _⟩ => ⟨S1536, .i32⟩
  | .hbm, ⟨74, _⟩ => ⟨S1536, .i1⟩
  | .hbm, ⟨75, _⟩ => ⟨S1536x1, .i1⟩
  | .hbm, ⟨76, _⟩ => ⟨S_, .i32⟩
  | .hbm, ⟨77, _⟩ => ⟨S1536, .i32⟩
  | .hbm, ⟨78, _⟩ => ⟨S1536, .i1⟩
  | .hbm, ⟨79, _⟩ => ⟨S_, .i32⟩
  | .hbm, ⟨80, _⟩ => ⟨S1536, .i32⟩
  | .hbm, ⟨81, _⟩ => ⟨S1536, .i32⟩
  | .hbm, ⟨82, _⟩ => ⟨S1536, .i32⟩
  | .hbm, ⟨83, _⟩ => ⟨S1536x1, .i32⟩
  | .hbm, ⟨84, _⟩ => ⟨S1536x1408, .f32⟩
  | .hbm, ⟨85, _⟩ => ⟨S1536x1408, .f32⟩
  | .hbm, ⟨86, _⟩ => ⟨S_, .f32⟩
  | .hbm, ⟨87, _⟩ => ⟨S_, .f32⟩
  | .hbm, ⟨88, _⟩ => ⟨S1536x1408, .i1⟩
  | .hbm, ⟨89, _⟩ => ⟨S1536x1408, .f32⟩
  | .hbm, ⟨90, _⟩ => ⟨S1536x1408, .f32⟩
  | .hbm, ⟨91, _⟩ => ⟨S1536x1408, .bf16⟩
  | _, _ => ⟨S1536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_call0_c : Ref sig .tc := ⟨.hbm, 49, rfl⟩
abbrev main_call0_call0_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_c_9 : Ref sig .tc := ⟨.hbm, 76, rfl⟩
abbrev main_v59 : Ref sig .tc := ⟨.hbm, 77, rfl⟩
abbrev main_v60 : Ref sig .tc := ⟨.hbm, 78, rfl⟩
abbrev main_c_10 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Proof.KernelKit.lean ====
/- The kernel up to its region and at a grid point: the contents of the arrays when the region is entered, the tables
   read off the launch memory, the blocks of the windows, and the frame claim from a run of the region. -/
module

public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone, proved from the map and the fact about the
    axes it reads (`hreadsK_W`) or decided, and restated over the pinned window, which unfolds to them. A window whose
    map reads a table gets none here. -/

/-- Window 0 (operand 3 (%1)) is fetched at the first point only, at any contents of the tables (its index map reads none). -/
theorem fetch0_0 (a : (pcfg0 (F := F)).Adm) : ∀ t : Fin (cfg0 a).N, ((cfg0 a).win 0).fetch t = true ↔ t.val % 60 = 0 :=
  (fun t => Pipeline.Window.fetchOf_const cc0_transform_0 (fun _ _ => rfl) (n := 60) (by decide) t : ∀ t : Fin grid0.N, Pipeline.Window.fetchOf grid0 false cc0_transform_0 t = true ↔ t.val % 60 = 0)
/-- Window 4 (result 0 (%2)) is written back at the last point only, at any contents of the tables (its index map reads none). -/
theorem flush0_4 (a : (pcfg0 (F := F)).Adm) : ∀ t : Fin (cfg0 a).N, ((cfg0 a).win 4).flush t = true ↔ t.val % 60 = 59 :=
  (fun t => Pipeline.Window.flushOf_const cc0_transform_4 (fun _ _ => rfl) (n := 60) (by decide) rfl t : ∀ t : Fin grid0.N, Pipeline.Window.flushOf grid0 true cc0_transform_4 t = true ↔ t.val % 60 = 59)

/-- The current staging memref of each window at point `t`: which of its buffers it is on. -/
abbrev st0_0 (a : (pcfg0 (F := F)).Adm) (t : Fin (cfg0 a).N) := ((cfg0 a).win 0).stage ((cfg0 a).slots t 0)
/-- The staging buffer of window 1 at a point. -/
abbrev st0_1 (a : (pcfg0 (F := F)).Adm) (t : Fin (cfg0 a).N) := ((cfg0 a).win 1).stage ((cfg0 a).slots t 1)
/-- The staging buffer of window 2 at a point. -/
abbrev st0_2 (a : (pcfg0 (F := F)).Adm) (t : Fin (cfg0 a).N) := ((cfg0 a).win 2).stage ((cfg0 a).slots t 2)
/-- The staging buffer of window 3 at a point. -/
abbrev st0_3 (a : (pcfg0 (F := F)).Adm) (t : Fin (cfg0 a).N) := ((cfg0 a).win 3).stage ((cfg0 a).slots t 3)
/-- The staging buffer of window 4 at a point. -/
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_aqlm_moe (grid0.coords t) (Memref.whole main_v24) (Memref.isWhole_whole _) (Memref.whole main_v5) (Memref.isWhole_whole _) (Memref.whole main_v31) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-! ## @main up to the region -/

/-- The host operations before the region, in order. -/
abbrev hostOps : List (HloOp τ sig (Elt F)) := List.flatten [hostOps0, hostOps0_1, hostOps0_2, hostOps0_3, hostOps0_4]

/-- Core `c`'s TensorCore buffers when the region is entered: after the host operations `hostOps0` (Launch.lean). -/
abbrev V (c : Dev nD) (b : Ref sig .tc) : Buf (Elt F) ((c : Thread nD τ).loc b) := StableHlo.after hostOps (fun b => m (c, b)) b

/-- These host lines make no new buffer. -/
theorem hostOps0_fresh : (hostOps0 : List (HloOp τ sig (Elt F))).Forall fun op => op.fresh = ∅ := by
  simp only [List.Forall]; repeat' constructor
/-- These host lines make no new buffer. -/
theorem hostOps0_1_fresh : (hostOps0_1 : List (HloOp τ sig (Elt F))).Forall fun op => op.fresh = ∅ := by
  simp only [List.Forall]; repeat' constructor
/-- These host lines make no new buffer. -/
theorem hostOps0_2_fresh : (hostOps0_2 : List (HloOp τ sig (Elt F))).Forall fun op => op.fresh = ∅ := by
  simp only [List.Forall]; repeat' constructor
/-- These host lines make no new buffer. -/
theorem hostOps0_3_fresh : (hostOps0_3 : List (HloOp τ sig (Elt F))).Forall fun op => op.fresh = ∅ := by
  simp only [List.Forall]; repeat' constructor
/-- These host lines make no new buffer. -/
theorem hostOps0_4_fresh : (hostOps0_4 : List (HloOp τ sig (Elt F))).Forall fun op => op.fresh = ∅ := by
  simp only [List.Forall]; repeat' constructor

/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer that no host operation writes is found by the region as launched. -/
theorem V_of (c : Dev nD) (b : Ref sig .tc) (h : (hostOps : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-- The host lines leave argument 0 as launched. -/
theorem V_main_arg0 (c : Dev nD) : V m c main_arg0 = m ((c : Thread nD τ).loc main_arg0) :=
  V_of m c main_arg0 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-- The host lines leave argument 1 as launched. -/
theorem V_main_arg1 (c : Dev nD) : V m c main_arg1 = m ((c : Thread nD τ).loc main_arg1) :=
  V_of m c main_arg1 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-- The host lines leave argument 2 as launched. -/
theorem V_main_arg2 (c : Dev nD) : V m c main_arg2 = m ((c : Thread nD τ).loc main_arg2) :=
  V_of m c main_arg2 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-- The host lines leave argument 3 as launched. -/
theorem V_main_arg3 (c : Dev nD) : V m c main_arg3 = m ((c : Thread nD τ).loc main_arg3) :=
  V_of m c main_arg3 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-- The host lines leave argument 4 as launched. -/
theorem V_main_arg4 (c : Dev nD) : V m c main_arg4 = m ((c : Thread nD τ).loc main_arg4) :=
  V_of m c main_arg4 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
   . -/
abbrev adm (hO : Ok m) : (pcfg0 (F := F)).Adm := ⟨tbl m, hO⟩
/-- The pipeline at the launched tables. -/
abbrev cfgM (hO : Ok m) : Pipeline.Cfg sig Λ₀ := cfg0 (adm m hO)

/-- Each table as the body is handed it: its whole buffer as a memref, and that memref's wholeness. -/
abbrev tbM0_0 : Memref sig .tc .smem S60 .i32 := Memref.whole main_v24
/-- The memory of prefetched table 0 is a whole buffer. -/
abbrev htbM0_0 : tbM0_0.IsWhole := Memref.isWhole_whole _
/-- The memory of prefetched table 1. -/
abbrev tbM0_1 : Memref sig .tc .smem S61 .i32 := Memref.whole main_v5
/-- The memory of prefetched table 1 is a whole buffer. -/
abbrev htbM0_1 : tbM0_1.IsWhole := Memref.isWhole_whole _
/-- The memory of prefetched table 2. -/
abbrev tbM0_2 : Memref sig .tc .smem S1 .i32 := Memref.whole main_v31
/-- The memory of prefetched table 2 is a whole buffer. -/
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The statement that a table's buffer holds its contents. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame claim`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1536x2048 .bf16 := spec0_0.stage ((cfgM m hO).slots t 0)
/-- The staging memory of window 0 is a whole buffer. -/
abbrev hs0_0 (hO : Ok m) (t : Fin (cfgM m hO).N) : (ms0_0 m hO t).IsWhole := hstage0_0 (((cfgM m hO).slots t 0).cast nbuf0_0)
/-- The staging memory of window 1 at a point. -/
abbrev ms0_1 (hO : Ok m) (t : Fin (cfgM m hO).N) : Memref sig .tc .vmem S1x2x1408x256 .i8 := spec0_1.stage ((cfgM m hO).slots t 1)
/-- The staging memory of window 1 is a whole buffer. -/
abbrev hs0_1 (hO : Ok m) (t : Fin (cfgM m hO).N) : (ms0_1 m hO t).IsWhole := hstage0_1 (((cfgM m hO).slots t 1).cast nbuf0_1)
/-- The staging memory of window 2 at a point. -/
abbrev ms0_2 (hO : Ok m) (t : Fin (cfgM m hO).N) : Memref sig .tc .vmem S1x16x128 .i32 := spec0_2.stage ((cfgM m hO).slots t 2)
/-- The staging memory of window 2 is a whole buffer. -/
abbrev hs0_2 (hO : Ok m) (t : Fin (cfgM m hO).N) : (ms0_2 m hO t).IsWhole := hstage0_2 (((cfgM m hO).slots t 2).cast nbuf0_2)
/-- The staging memory of window 3 at a point. -/
abbrev ms0_3 (hO : Ok m) (t : Fin (cfgM m hO).N) : Memref sig .tc .vmem S1x1x1408 .f32 := spec0_3.stage ((cfgM m hO).slots t 3)
/-- The staging memory of window 3 is a whole buffer. -/
abbrev hs0_3 (hO : Ok m) (t : Fin (cfgM m hO).N) : (ms0_3 m hO t).IsWhole := hstage0_3 (((cfgM m hO).slots t 3).cast nbuf0_3)
/-- The staging memory of window 4 at a point. -/
abbrev ms0_4 (hO : Ok m) (t : Fin (cfgM m hO).N) : Memref sig .tc .vmem S1536x1408 .bf16 := spec0_4.stage ((cfgM m hO).slots t 4)
/-- The staging memory of window 4 is a whole buffer. -/
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S128x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.Kernel

end
-- ==== Proof.HostFacts.lean ====
/- The tables the kernel's host code builds from the group sizes, read as natural numbers: the running sums of the
   sizes, the number of experts that own rows, and the order in which those experts are visited. -/
module

public import Idealize.ShloMosaic.Lib.Routing.Ops
public import Idealize.ShloMosaic.Lib.Routing.Words
public import Idealize.ShloMosaic.Lib.Routing.OpsSet
public import Idealize.ShloMosaic.Lib.Routing.SortLink
public import Idealize.ShloMosaic.Lib.SortFacts
public import Idealize.ShloMosaic.Lib.Pipeline.Value
public import Idealize.ShloMosaic.Lib.WordCmp

@[expose] public section

namespace Cert.Proof.HostFacts

open Idealize.ShloMosaic Idealize.ShloMosaic.ValueIdx Idealize.ShloMosaic.WordCmp
open Idealize.ShloMosaic.Routing

/-- The group sizes as one column of words. -/
abbrev Sizes := IVec (shape1 60) 32

/-- Every group size lies between 0 and 1536. -/
def Small (gs : Sizes) : Prop := ∀ e : Fin 60, (gs (ix1 e)).toNat ≤ 1536

/-- The size of group `k`, and zero past the last group. -/
def sz (gs : Sizes) (k : ℕ) : ℕ := if h : k < 60 then (gs (ix1 ⟨k, h⟩)).toNat else 0

/-- The number of rows before group `k`: where its rows start. -/
def off (gs : Sizes) (k : ℕ) : ℕ := ((List.range k).map (sz gs)).sum

/-- How many of the first `k` groups own a row. -/
def cnt (gs : Sizes) (k : ℕ) : ℕ := ((List.range k).map fun e => if 0 < sz gs e then 1 else 0).sum

/-- The number of groups that own a row. -/
def used (gs : Sizes) : ℕ := cnt gs 60

variable {gs : Sizes}

/-- A small group has at most 1536 rows. -/
theorem sz_le (hs : Small gs) (k : ℕ) : sz gs k ≤ 1536 := by
  unfold sz
  split
  · exact hs _
  · omega

/-- The word of a group size is its number of rows. -/
theorem sz_word (e : Fin 60) : gs (ix1 e) = BitVec.ofNat 32 (sz gs e.val) := by
  unfold sz
  rw [dif_pos e.isLt]
  simp

/-- The first group starts at row zero. -/
theorem off_zero : off gs 0 = 0 := rfl

/-- A group starts where the rows of the one before end. -/
theorem off_succ (k : ℕ) : off gs (k + 1) = off gs k + sz gs k := by
  unfold off
  rw [List.range_succ, List.map_append, List.sum_append]
  simp

/-- Later groups start at later rows. -/
theorem off_mono {a b : ℕ} (h : a ≤ b) : off gs a ≤ off gs b := by
  induction b with
  | zero => rw [Nat.le_zero.mp h]
  | succ b ih =>
    rcases Nat.lt_or_eq_of_le h with h | h
    · exact (ih (by omega)).trans (by rw [off_succ]; omega)
    · rw [h]

/-- Where a group starts is bounded by its number. -/
theorem off_le (hs : Small gs) (k : ℕ) : off gs k ≤ 1536 * k := by
  induction k with
  | zero => simp [off_zero]
  | succ k ih =>
    have := sz_le hs k
    rw [off_succ]
    omega

/-- One more group counts when it has a row. -/
theorem cnt_succ (k : ℕ) : cnt gs (k + 1) = cnt gs k + if 0 < sz gs k then 1 else 0 := by
  unfold cnt
  rw [List.range_succ, List.map_append, List.sum_append]
  simp

/-- At most `k` of the first `k` groups have a row. -/
theorem cnt_le (k : ℕ) : cnt gs k ≤ k := by
  induction k with
  | zero => exact Nat.le_refl 0
  | succ k ih => rw [cnt_succ]; split <;> omega

/-- At most 60 groups have a row. -/
theorem used_le : used gs ≤ 60 := cnt_le 60

/-- The count of the first groups that have a row, as the size of a set. -/
theorem cnt_card (k : ℕ) (hk : k ≤ 60) : cnt gs k = (Finset.univ.filter fun e : Fin 60 => e.val < k ∧ 0 < sz gs e.val).card := by
  induction k with
  | zero => simp [cnt]
  | succ k ih =>
    rw [cnt_succ, ih (by omega)]
    have hlt : k < 60 := by omega
    by_cases h : 0 < sz gs k
    · rw [if_pos h, ← Finset.card_insert_of_notMem (a := (⟨k, hlt⟩ : Fin 60)) (by simp)]
      congr 1
      ext e
      simp only [Finset.mem_insert, Finset.mem_filter, Finset.mem_univ, true_and, Fin.ext_iff]
      constructor
      · rintro (h' | ⟨h1, h2⟩)
        · rw [h']; exact ⟨by omega, h⟩
        · exact ⟨by omega, h2⟩
      · rintro ⟨h1, h2⟩
        by_cases h3 : e.val = k
        · exact .inl h3
        · exact .inr ⟨by omega, h2⟩
    · rw [if_neg h, Nat.add_zero]
      congr 1
      ext e
      simp only [Finset.mem_filter, Finset.mem_univ, true_and]
      constructor
      · rintro ⟨h1, h2⟩; exact ⟨by omega, h2⟩
      · rintro ⟨h1, h2⟩
        refine ⟨?_, h2⟩
        rcases Nat.lt_or_eq_of_le (Nat.le_of_lt_succ h1) with h3 | h3
        · exact h3
        · rw [h3] at h2; exact absurd h2 h

/-- The count of all groups that have a row, as the size of a set. -/
theorem used_card : used gs = (Finset.univ.filter fun e : Fin 60 => 0 < sz gs e.val).card := by
  rw [used, cnt_card 60 (Nat.le_refl _)]
  congr 1
  ext e
  simp

/-- Where a group's rows start, as the running sum prints it. -/
theorem cumsum_word (hw : (shape1 60).ReduceWindows (![60] : Fin 1 → Nat) ![1] ![59] ![0] (shape1 60)) (hu : 0 < shape0.numel)
    (init : IVec shape0 32) (hinit : init ix0 = 0#32) (e : Fin 60) :
    Host.reduceWindow IntOp.addi ![60] ![1] ![59] ![0] gs init hw hu (ix1 e) = BitVec.ofNat 32 (off gs (e.val + 1)) :=
  cumsum1 (Nm1 := 59) rfl gs (sz gs) sz_word init hinit hw hu e

/-- The table of row starts: a zero, then the running sums. -/
theorem off_word (hc : Shape.Concatenates [shape1 1, shape1 60] (shape1 61) 0) (z : IVec (shape1 1) 32) (hz : z (ix1 0) = 0#32)
    (c : IVec (shape1 60) 32) (hcs : ∀ e : Fin 60, c (ix1 e) = BitVec.ofNat 32 (off gs (e.val + 1))) (k : Fin 61) :
    concatenate (shape1 61) 0 [⟨shape1 1, z⟩, ⟨shape1 60, c⟩] hc (ix1 k) = BitVec.ofNat 32 (off gs k.val) := by
  rcases Nat.eq_zero_or_pos k.val with h | h
  · refine (concatenate_pair_apply_left 0 z c hc (ix1 k) rfl (ix1 0) fun b => ?_).trans (hz.trans (by rw [h]; rfl))
    match b with
    | ⟨0, _⟩ => exact h.symm
  · have hk := k.isLt
    refine (concatenate_pair_apply_right 0 z c hc (ix1 k) rfl rfl (ix1 ⟨k.val - 1, by omega⟩) (fun b hb => ?_) ?_).trans
      ((hcs ⟨k.val - 1, by omega⟩).trans (by show BitVec.ofNat 32 (off gs (k.val - 1 + 1)) = _; rw [Nat.sub_add_cancel h]))
    · match b, hb with
      | ⟨0, _⟩, hb => exact absurd rfl hb
    · show k.val - 1 + 1 = k.val
      omega

/-- The comparison of a group size with zero. -/
theorem sgt_word (hs : Small gs) (e : Fin 60) : IntOp.cmpi .sgt (gs (ix1 e)) 0#32 = BitVec.ofBool (decide (0 < sz gs e.val)) := by
  have hb := sz_le hs e.val
  have h : (BitVec.ofNat 32 (sz gs e.val)).toInt = (sz gs e.val : ℤ) := toInt_ofNat_of_lt (by omega)
  rw [sz_word (gs := gs) e, cmpi_sgt_eq, h]
  congr 1
  simp

/-- The comparison of a group size with zero says whether the group has no rows. -/
theorem sle_word (hs : Small gs) (e : Fin 60) : IntOp.cmpi .sle (gs (ix1 e)) 0#32 = BitVec.ofBool (decide (sz gs e.val = 0)) := by
  have hb := sz_le hs e.val
  rw [sz_word (gs := gs) e, cmpi_sle_eq, toInt_ofNat_of_lt (w := 32) (by omega)]
  congr 1
  simp

/-- The number of groups that own a row, as the host sums it. -/
theorem used_word (hs : Small gs) (b : IVec (shape1 60) 1) (hb : ∀ e : Fin 60, b (ix1 e) = IntOp.cmpi .sgt (gs (ix1 e)) 0#32)
    (h1 : 1 < 32) (h : (shape1 60).ReducesTo [0] shape0) (hu : 0 < shape0.numel) :
    Host.reduce IntOp.addi (extui 32 b h1) (constantI shape0 32 0#32) h hu ix0 = BitVec.ofNat 32 (used gs) := by
  refine reduce_sum _ (fun e => if 0 < sz gs e then 1 else 0) (fun e => ?_) h hu
  show (b (ix1 e)).setWidth 32 = _
  rw [hb, sgt_word hs]
  exact setWidth_ofBool _

/-- Which group the sort by "owns no row" puts at place `k`. -/
def ord (gs : Sizes) : Fin 60 → Fin 60 :=
  sortedFrom fun a b => decide (sz gs a.val ≠ 0) && decide (sz gs b.val = 0)

/-- The visit order names no group twice. -/
theorem ord_injective : Function.Injective (ord gs) := sortedFrom_injective _

/-- The visit order names every group. -/
theorem ord_surjective : Function.Surjective (ord gs) := sortedFrom_surjective _

/-- Groups that own rows come before those that own none. -/
theorem ord_first {i j : Fin 60} (hij : i < j) (hj : 0 < sz gs (ord gs j).val) : 0 < sz gs (ord gs i).val := by
  by_contra hi
  have h := sortedFrom_noInversion (n := 60)
    (fun a b => decide (sz gs a.val ≠ 0) && decide (sz gs b.val = 0))
    (fun a b => decide (sz gs a.val ≠ 0) && decide (sz gs b.val = 0))
    (fun a b h => by simp at h ⊢; omega) (fun a b h => h) (fun a b c h1 h2 => by simp at h1 h2 ⊢; omega) i j hij
  simp only [Bool.and_eq_false_iff, decide_eq_false_iff_not] at h
  rcases h with h | h
  · exact h (by show sz gs (ord gs j).val ≠ 0; omega)
  · exact h (by show sz gs (ord gs i).val = 0; omega)

/-- Place `i` holds a group that owns rows exactly when `i` is below the number of such groups. -/
theorem ord_pos_iff (i : Fin 60) : 0 < sz gs (ord gs i).val ↔ i.val < used gs := by
  have hcard : used gs = (Finset.univ.filter fun i : Fin 60 => 0 < sz gs (ord gs i).val).card := by
    rw [used_card]
    refine (Finset.card_bij (fun i _ => ord gs i) (fun i hi => ?_) (fun a _ b _ h => ord_injective h) fun e he => ?_).symm
    · simpa using hi
    · obtain ⟨i, rfl⟩ := ord_surjective (gs := gs) e
      exact ⟨i, by simpa using he, rfl⟩
  rw [hcard]
  constructor
  · intro h
    have hsub : (Finset.univ.filter fun j : Fin 60 => j ≤ i) ⊆ Finset.univ.filter fun j : Fin 60 => 0 < sz gs (ord gs j).val := by
      intro j hj
      simp only [Finset.mem_filter, Finset.mem_univ, true_and] at hj ⊢
      rcases lt_or_eq_of_le hj with hj | hj
      · exact ord_first hj h
      · rw [hj]; exact h
    have := Finset.card_le_card hsub
    have e : (Finset.univ.filter fun j : Fin 60 => j ≤ i).card = i.val + 1 := by
      rw [show (Finset.univ.filter fun j : Fin 60 => j ≤ i) = Finset.Iic i by ext; simp, Fin.card_Iic]
    omega
  · intro h
    by_contra hn
    have hsub : (Finset.univ.filter fun j : Fin 60 => 0 < sz gs (ord gs j).val) ⊆ Finset.univ.filter fun j : Fin 60 => j < i := by
      intro j hj
      simp only [Finset.mem_filter, Finset.mem_univ, true_and] at hj ⊢
      by_contra hji
      rcases lt_or_eq_of_le (not_lt.mp hji) with h' | h'
      · exact hn (ord_first h' hj)
      · rw [← h'] at hj; exact hn hj
    have := Finset.card_le_card hsub
    have e : (Finset.univ.filter fun j : Fin 60 => j < i).card = i.val := by
      rw [show (Finset.univ.filter fun j : Fin 60 => j < i) = Finset.Iio i by ext; simp, Fin.card_Iio]
    omega

/-- The comparator of the sort: by a one-bit key. -/
abbrev CmpLt (cmp : BitVec 1 × BitVec 32 → BitVec 1 × BitVec 32 → BitVec 1) : Prop :=
  ∀ a b, cmp a b = IntOp.cmpi .ult a.1 b.1

/-- The second result of the sort holds at place `k` the number of the group put there. -/
theorem ord_word (hs : Small gs) (cmp : BitVec 1 × BitVec 32 → BitVec 1 × BitVec 32 → BitVec 1) (hcmp : CmpLt cmp)
    (b : IVec (shape1 60) 1) (hb : ∀ e : Fin 60, b (ix1 e) = IntOp.cmpi .sle (gs (ix1 e)) 0#32) (k : Fin 60) :
    (Host.sort2 (shape1 60) 0 cmp b (iotaInDim (shape1 60) 32 0)).2 (ix1 k) = BitVec.ofNat 32 (ord gs k).val := by
  have hd : 0 < (shape1 60).rank := Nat.zero_lt_one
  have e : ∀ (j : (shape1 60).Idx) (c : Fin 60), j.along (⟨0, hd⟩ : Fin (shape1 60).rank) c = ix1 c := fun j c =>
    (Shape.Idx.along_rank1 j c).trans (ofFin_eq_ix1 c)
  have hbe : ∀ c : Fin 60, b (ix1 c) = BitVec.ofBool (decide (sz gs c.val = 0)) := fun c => (hb c).trans (sle_word hs c)
  have hR : (fun k k' : Fin 60 => cmp (b ((ix1 k : (shape1 60).Idx).along ⟨0, hd⟩ k), iotaInDim (shape1 60) 32 0 ((ix1 k : (shape1 60).Idx).along ⟨0, hd⟩ k))
      (b ((ix1 k : (shape1 60).Idx).along ⟨0, hd⟩ k'), iotaInDim (shape1 60) 32 0 ((ix1 k : (shape1 60).Idx).along ⟨0, hd⟩ k')) == 1#1)
      = fun a b => decide (sz gs a.val ≠ 0) && decide (sz gs b.val = 0) := by
    funext p q
    rw [hcmp, e, e, hbe, hbe]
    by_cases h1 : sz gs p.val = 0 <;> by_cases h2 : sz gs q.val = 0 <;> simp [h1, h2, IntOp.cmpi] <;> decide
  have hR' : ∀ j : (shape1 60).Idx, (fun k k' : Fin 60 => cmp (b (j.along ⟨0, hd⟩ k), iotaInDim (shape1 60) 32 0 (j.along ⟨0, hd⟩ k))
      (b (j.along ⟨0, hd⟩ k'), iotaInDim (shape1 60) 32 0 (j.along ⟨0, hd⟩ k')) == 1#1)
      = fun a b => decide (sz gs a.val ≠ 0) && decide (sz gs b.val = 0) := by
    intro j
    refine Eq.trans ?_ hR
    funext p q
    rw [e j p, e j q, e (ix1 p) p, e (ix1 p) q]
  unfold Host.sort2
  rw [dif_pos hd]
  refine (congrArg (fun c : Fin 60 => iotaInDim (shape1 60) 32 0 ((ix1 k : (shape1 60).Idx).along ⟨0, hd⟩ c))
    (congrArg (fun R : Fin 60 → Fin 60 → Bool => sortedFrom R k) (hR' (ix1 k)))).trans ?_
  exact (congrArg (iotaInDim (shape1 60) 32 0) (e (ix1 k) _)).trans rfl

/-- The place from which grid point `i` reads its expert: its own, but never past the last place that owns rows. -/
def place (gs : Sizes) (i : ℕ) : ℕ := min i (used gs - 1)

/-- A place read by a grid point is one of the sixty. -/
theorem place_lt {i : ℕ} (hi : i < 60) : place gs i < 60 := by unfold place; omega

/-- The expert grid point `i` visits. -/
def expert (gs : Sizes) (i : Fin 60) : Fin 60 := ord gs ⟨place gs i.val, place_lt i.isLt⟩

/-- A point below the number of groups that have rows visits the group at its own place. -/
theorem expert_of_lt {i : Fin 60} (hi : i.val < used gs) : expert gs i = ord gs i := by
  unfold expert place
  congr 1
  apply Fin.ext
  show min i.val (used gs - 1) = i.val
  omega

/-- A point below the number of experts in use visits an expert that owns rows. -/
theorem expert_pos {i : Fin 60} (hi : i.val < used gs) : 0 < sz gs (expert gs i).val := by
  rw [expert_of_lt hi]
  exact (ord_pos_iff i).mpr hi

/-- Every expert that owns rows is visited by a point below the number of experts in use. -/
theorem expert_all (e : Fin 60) (he : 0 < sz gs e.val) : ∃ i : Fin 60, i.val < used gs ∧ expert gs i = e := by
  obtain ⟨i, rfl⟩ := ord_surjective (gs := gs) e
  have := (ord_pos_iff i).mp he
  exact ⟨i, this, expert_of_lt this⟩

/-- No expert is visited twice by such points. -/
theorem expert_injective {i j : Fin 60} (hi : i.val < used gs) (hj : j.val < used gs) (h : expert gs i = expert gs j) : i = j := by
  rw [expert_of_lt hi, expert_of_lt hj] at h
  exact ord_injective h

/-- The word by which grid point `i` picks its place. -/
def placeW (n : BitVec 32) (i : Fin 60) : BitVec 32 :=
  let m := IntOp.minsi (BitVec.ofNat 32 i.val) (IntOp.maxsi (n - 1#32) 0#32)
  Scalar.select (IntOp.cmpi .slt m 0#32) (m + 60#32) m

/-- The word by which a grid point picks its place is the number of the place. -/
theorem placeW_word (i : Fin 60) : placeW (BitVec.ofNat 32 (used gs)) i = BitVec.ofNat 32 (place gs i.val) := by
  have hu := used_le (gs := gs)
  have hi := i.isLt
  unfold placeW place
  rw [maxsi_pred (by omega)]
  have hm : IntOp.minsi (BitVec.ofNat 32 i.val) (BitVec.ofNat 32 (used gs - 1)) = BitVec.ofNat 32 (min i.val (used gs - 1)) := by
    unfold IntOp.minsi
    have h1 : (BitVec.ofNat 32 i.val).toInt = (i.val : ℤ) := toInt_ofNat_of_lt (by omega)
    have h2 : (BitVec.ofNat 32 (used gs - 1)).toInt = ((used gs - 1 : ℕ) : ℤ) := toInt_ofNat_of_lt (by omega)
    rw [BitVec.slt_eq_decide, h1, h2]
    by_cases h : i.val < used gs - 1
    · rw [min_eq_left (by omega), if_pos (decide_eq_true (by omega))]
    · rw [min_eq_right (by omega), if_neg (by rw [decide_eq_true_iff]; omega)]
  simp only [hm]
  have h3 : IntOp.cmpi .slt (BitVec.ofNat 32 (min i.val (used gs - 1))) 0#32 = 0#1 := by
    have h4 : (BitVec.ofNat 32 (min i.val (used gs - 1))).toInt = ((min i.val (used gs - 1) : ℕ) : ℤ) := toInt_ofNat_of_lt (by omega)
    rw [cmpi_slt_eq, h4, decide_eq_false (by rw [BitVec.toInt_zero]; omega)]
    rfl
  rw [h3]
  exact if_neg (by decide)

/-- The three tables hold what the group sizes determine: the expert each grid point visits, where each group's rows
    start, and the number of groups that own rows. -/
structure Tables (gs : Sizes) (x0 : IVec (shape1 60) 32) (x1 : IVec (shape1 61) 32) (x2 : IVec (shape1 1) 32) : Prop where
  expert : ∀ i : Fin 60, x0 (ix1 i) = BitVec.ofNat 32 (expert gs i).val
  off : ∀ k : Fin 61, x1 (ix1 k) = BitVec.ofNat 32 (off gs k.val)
  used : x2 (ix1 0) = BitVec.ofNat 32 (used gs)

end Cert.Proof.HostFacts
-- ==== Proof.KernelTables.lean ====
/- The kernel's three prefetched tables, read off the launch memory: what they hold under small group sizes, and the
   pipeline's side condition of them. -/
module

public import proofs.«01_k».proof.Proof.Gen.Kernel.Launch
public import proofs.«01_k».proof.Proof.Gen.Kernel.Skeleton
public import proofs.«01_k».proof.Proof.KernelKit
public import proofs.«01_k».proof.Proof.HostFacts
public import Idealize.ShloMosaic.Lib.StableHlo.Run
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Routing
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

section Reads
attribute [local irreducible] Host.reduceWindow Host.reduce Host.sort2 Host.gather concatenate broadcastInDim

/-- The group sizes as launched. -/
abbrev gsOf (c : Dev nD) : HostFacts.Sizes := m ((c : Thread nD τ).loc main_arg1)

/-- The number of groups with rows, as the host computes it. -/
theorem V_v31 (c : Dev nD) : V m c main_v31 = shapeCast S1 (Host.reduce IntOp.addi
    (extui 32 (cmpi .sgt (gsOf m c) (broadcastInDim S60 ![] bcast_S_S60 (constantI S_ 32 0#32))) natLt_1_32)
    (constantI S_ 32 0#32) reducesTo_S60_S_d0 h_S_) shapeCasts_S_S1 := by
  unfold V hostOps
  simp only [List.flatten_cons, List.flatten_nil, List.append_nil, List.cons_append, List.nil_append]
  after_results
  rfl

/-- The table of row starts, as the host computes it. -/
theorem V_v5 (c : Dev nD) : V m c main_v5 = concatenate S61 0 [⟨S1, broadcastInDim S1 ![] bcast_S_S1 (constantI S_ 32 0#32)⟩,
    ⟨S60, Host.reduceWindow IntOp.addi ![60] ![1] ![59] ![0] (gsOf m c) (broadcastInDim S_ ![] bcast_S_S_ (constantI S_ 32 0#32)) reduceWindows_S60_S60_w60s1p59_0 h_S_⟩] concatenates_S1_S60_S61_d0 := by
  unfold V hostOps
  simp only [List.flatten_cons, List.flatten_nil, List.append_nil, List.cons_append, List.nil_append]
  after_results
  rfl

/-- The places read by the grid points, as the host computes them from the number of groups with rows. -/
def placesT (n : IVec S_ 32) : IVec S60 32 :=
  minsi (iotaInDim S60 32 0) (broadcastInDim S60 ![] bcast_S_S60 (maxsi (subi n (constantI S_ 32 1#32)) (constantI S_ 32 0#32)))

/-- The table of experts, as the host computes it. -/
theorem V_v24 (c : Dev nD) : V m c main_v24 = Host.gather gather_S60_S60x1_S60_n_0_n_n_0_1_1
    (Host.sort2 S60 0 comparator_i1_i32_d0 (cmpi .sle (gsOf m c) (broadcastInDim S60 ![] bcast_S_S60 (constantI S_ 32 0#32))) (iotaInDim S60 32 0)).2
    (broadcastInDim S60x1 ![0] bcast_S60_S60x1_0 (
      let n := Host.reduce IntOp.addi (extui 32 (cmpi .sgt (gsOf m c) (broadcastInDim S60 ![] bcast_S_S60 (constantI S_ 32 0#32))) natLt_1_32)
        (constantI S_ 32 0#32) reducesTo_S60_S_d0 h_S_
      select (cmpi .slt (placesT n) (broadcastInDim S60 ![] bcast_S_S60 (constantI S_ 32 0#32)))
        (addi (placesT n) (broadcastInDim S60 ![] bcast_S_S60 (constantI S_ 32 60#32))) (placesT n))) := by
  unfold V hostOps
  simp only [List.flatten_cons, List.flatten_nil, List.append_nil, List.cons_append, List.nil_append]
  after_results
  rfl

end Reads

/-- A scalar spread over sixty places, read at a place. -/
theorem bcast_at (i : Fin 60) (v : IVec S_ 32) : broadcastInDim S60 ![] bcast_S_S60 v (ix1 i) = v ix0 :=
  broadcastInDim_apply _ bcast_S_S60 _ _ ix0 fun e => e.elim0

/-- The place read by grid point `i`. -/
theorem placesT_at (n : IVec S_ 32) (i : Fin 60) :
    placesT n (ix1 i) = IntOp.minsi (BitVec.ofNat 32 i.val) (IntOp.maxsi (n ix0 - 1#32) 0#32) := by
  have h : ∀ a b : IVec S60 32, minsi a b (ix1 i) = IntOp.minsi (a (ix1 i)) (b (ix1 i)) := fun _ _ => rfl
  unfold placesT
  rw [h, bcast_at, iota1_ap]
  rfl

/-- Under small group sizes the tables hold what the group sizes determine. -/
theorem tables (c : Dev nD) (hs : HostFacts.Small (gsOf m c)) :
    HostFacts.Tables (gsOf m c) (V m c main_v24) (V m c main_v5) (V m c main_v31) where
  used := by
    rw [V_v31]
    have e1 : ∀ n : IVec S_ 32, shapeCast S1 n shapeCasts_S_S1 (ix1 0) = n ix0 := fun n => congrArg n (eq_ix0 _)
    rw [e1]
    exact HostFacts.used_word hs (cmpi .sgt (gsOf m c) (broadcastInDim S60 ![] bcast_S_S60 (constantI S_ 32 0#32))) (fun _ => rfl) _ _ _
  off k := by
    rw [V_v5]
    exact HostFacts.off_word _ _ rfl _ (fun e => HostFacts.cumsum_word (gs := gsOf m c) _ _ _ rfl e) k
  expert i := by
    have hn := HostFacts.used_word hs (cmpi .sgt (gsOf m c) (broadcastInDim S60 ![] bcast_S_S60 (constantI S_ 32 0#32))) (fun _ => rfl) natLt_1_32 reducesTo_S60_S_d0 h_S_
    rw [V_v24]
    refine (gather_take1 _ rfl rfl rfl rfl _ _ i ⟨HostFacts.place (gsOf m c) i.val, HostFacts.place_lt i.isLt⟩ ?_ (by decide)).trans
      (HostFacts.ord_word hs _ (fun _ _ => rfl) _ (fun _ => rfl) _)
    refine Eq.trans ?_ (HostFacts.placeW_word i)
    rw [← hn]
    generalize Host.reduce IntOp.addi _ _ _ _ = n
    refine (broadcastInDim_apply _ bcast_S60_S60x1_0 _ _ (ix1 i) fun e => ?_).trans ?_
    · match e with
      | ⟨0, _⟩ => rfl
    have e0 := bcast_at i
    have ep := placesT_at n i
    unfold HostFacts.placeW
    show Scalar.select (IntOp.cmpi .slt (placesT n (ix1 i)) (broadcastInDim S60 ![] bcast_S_S60 (constantI S_ 32 0#32) (ix1 i)))
      (placesT n (ix1 i) + broadcastInDim S60 ![] bcast_S_S60 (constantI S_ 32 60#32) (ix1 i)) (placesT n (ix1 i)) = _
    rw [ep, e0, e0]
    rfl

end Cert.Proof.Kernel

end
-- ==== Proof.ChunkWords.lean ====
/- The 32-bit words by which the kernel walks an expert's rows, as natural numbers: the first row rounded down to a
   multiple of sixteen, the number of chunks of 128 rows, and the row at which a chunk starts. -/
module

public import Idealize.ShloMosaic.Lib.Routing.Words
public import Idealize.ShloMosaic.Lib.WordArith
public import Idealize.ShloMosaic.Lib.LoopRemainder
public import Idealize.ShloMosaic.Lib.Scf

@[expose] public section

namespace Cert.Proof.ChunkWords

open Idealize.ShloMosaic Idealize.ShloMosaic.Routing Idealize.ShloMosaic.WordArith

/-- The sign of a word, as printed. -/
def sgn (x : BitVec 32) : BitVec 32 :=
  Scalar.subi (Scalar.extui (Scalar.cmpi .sgt x 0#32)) (Scalar.extui (Scalar.cmpi .slt x 0#32))

/-- Division rounding down, as printed: the quotient, less one where the signs differ and the remainder is not zero. -/
def fdiv (x d : BitVec 32) : BitVec 32 :=
  Scalar.select (Scalar.andi (Scalar.cmpi .ne (sgn x) (sgn d)) (Scalar.cmpi .ne (Scalar.remsi x d) 0#32))
    (Scalar.subi (Scalar.divsi x d) 1#32) (Scalar.divsi x d)

/-- The first row of an expert rounded down to a multiple of sixteen. -/
def baseW (lo : BitVec 32) : BitVec 32 := Scalar.muli (fdiv lo 16#32) 16#32

/-- The number of chunks. -/
def countW (lo hi : BitVec 32) : BitVec 32 := fdiv (Scalar.subi (Scalar.addi (Scalar.subi hi (baseW lo)) 128#32) 1#32) 128#32

/-- The row at which chunk `k` starts: never past row 1408. -/
def startW (lo : BitVec 32) (k : ℕ) : BitVec 32 :=
  Scalar.minsi (Scalar.addi (baseW lo) (Scalar.muli (Scf.iv 0#32 1#32 k) 128#32)) 1408#32

/-- The sign of a positive word below `2^31` is one. -/
theorem sgn_pos {a : ℕ} (h0 : 0 < a) (ha : a < 2 ^ 31) : sgn (BitVec.ofNat 32 a) = 1#32 := by
  have h := toInt_ofNat_small a ha
  have h1 : Scalar.cmpi .sgt (BitVec.ofNat 32 a) 0#32 = 1#1 := by
    show BitVec.ofBool ((0#32).slt (BitVec.ofNat 32 a)) = 1#1
    have : (0#32).slt (BitVec.ofNat 32 a) = true := by
      rw [BitVec.slt_eq_decide, h, decide_eq_true_eq]; exact Int.natCast_pos.mpr h0
    rw [this]; rfl
  have h2 : Scalar.cmpi .slt (BitVec.ofNat 32 a) 0#32 = 0#1 := by
    show BitVec.ofBool ((BitVec.ofNat 32 a).slt 0#32) = 0#1
    have : (BitVec.ofNat 32 a).slt 0#32 = false := by
      rw [BitVec.slt_eq_decide, h, decide_eq_false_iff_not]; exact Int.not_lt.mpr (Int.natCast_nonneg a)
    rw [this]; rfl
  unfold sgn; rw [h1, h2]; rfl

/-- Dividing words below `2^31` by a positive one rounds down as natural numbers do. -/
theorem fdiv_word {a b : ℕ} (ha : a < 2 ^ 31) (h0 : 0 < b) (hb : b < 2 ^ 31) :
    fdiv (BitVec.ofNat 32 a) (BitVec.ofNat 32 b) = BitVec.ofNat 32 (a / b) := by
  have hd : Scalar.divsi (BitVec.ofNat 32 a) (BitVec.ofNat 32 b) = BitVec.ofNat 32 (a / b) := divsi_word _ ha h0 hb
  have hr : Scalar.remsi (BitVec.ofNat 32 a) (BitVec.ofNat 32 b) = BitVec.ofNat 32 (a % b) := remsi_word _ ha h0 hb
  unfold fdiv
  rw [hd, hr]
  have hc : Scalar.andi (Scalar.cmpi .ne (sgn (BitVec.ofNat 32 a)) (sgn (BitVec.ofNat 32 b)))
      (Scalar.cmpi .ne (BitVec.ofNat 32 (a % b)) 0#32) = 0#1 := by
    rcases Nat.eq_zero_or_pos a with rfl | hp
    · rw [Nat.zero_mod, show Scalar.cmpi .ne (BitVec.ofNat 32 0) 0#32 = 0#1 from rfl]
      simp [Scalar.andi, IntOp.andi]
    · rw [sgn_pos hp ha, sgn_pos h0 hb, show Scalar.cmpi .ne 1#32 1#32 = 0#1 from rfl]
      simp [Scalar.andi, IntOp.andi]
  rw [hc]; rfl

/-- The rounded first row as a number. -/
theorem baseW_word {a : ℕ} (ha : a < 2 ^ 31) : baseW (BitVec.ofNat 32 a) = BitVec.ofNat 32 (a / 16 * 16) := by
  unfold baseW
  rw [show (16#32 : BitVec 32) = BitVec.ofNat 32 16 from rfl, fdiv_word ha (by decide) (by decide)]
  show BitVec.ofNat 32 (a / 16) * BitVec.ofNat 32 16 = _
  rw [← BitVec.ofNat_mul]

/-- The number of chunks as a number: the rows from the rounded first row on, in 128s, rounded up. -/
def nchunks (a b : ℕ) : ℕ := (b - a / 16 * 16 + 127) / 128

/-- The word that counts the chunks of rows `a` to `b` is the number of chunks. -/
theorem countW_word {a b : ℕ} (hab : a ≤ b) (hb : b < 2 ^ 30) :
    countW (BitVec.ofNat 32 a) (BitVec.ofNat 32 b) = BitVec.ofNat 32 (nchunks a b) := by
  unfold countW nchunks
  rw [baseW_word (by omega)]
  have h1 : Scalar.subi (Scalar.addi (Scalar.subi (BitVec.ofNat 32 b) (BitVec.ofNat 32 (a / 16 * 16))) 128#32) 1#32
      = BitVec.ofNat 32 (b - a / 16 * 16 + 127) := by
    show BitVec.ofNat 32 b - BitVec.ofNat 32 (a / 16 * 16) + BitVec.ofNat 32 128 - BitVec.ofNat 32 1 = _
    rw [ofNat32_sub (by omega), ← BitVec.ofNat_add, ofNat32_sub (by omega)]
    congr 1
  rw [h1, show (128#32 : BitVec 32) = BitVec.ofNat 32 128 from rfl, fdiv_word (by omega) (by decide) (by decide)]

/-- The row at which chunk `k` starts, as a number. -/
def start (a k : ℕ) : ℕ := min (a / 16 * 16 + 128 * k) 1408

/-- The word of the first row of chunk `k` is the number of that row. -/
theorem startW_word {a k : ℕ} (ha : a < 2 ^ 29) (hk : k < 2 ^ 22) : startW (BitVec.ofNat 32 a) k = BitVec.ofNat 32 (start a k) := by
  unfold startW start
  rw [baseW_word (by omega)]
  have h1 : Scalar.addi (BitVec.ofNat 32 (a / 16 * 16)) (Scalar.muli (Scf.iv 0#32 1#32 k) 128#32)
      = BitVec.ofNat 32 (a / 16 * 16 + 128 * k) := by
    show BitVec.ofNat 32 (a / 16 * 16) + (0#32 + BitVec.ofNat 32 k * 1#32) * BitVec.ofNat 32 128 = _
    rw [BitVec.zero_add, BitVec.mul_one, ← BitVec.ofNat_mul, ← BitVec.ofNat_add, Nat.mul_comm k]
  rw [h1]
  apply BitVec.eq_of_toNat_eq
  have e1 : (BitVec.ofNat 32 (a / 16 * 16 + 128 * k)).toNat = a / 16 * 16 + 128 * k := toNat_ofNat_of_lt _ (by omega)
  have := toNat_minsi_of_lt (BitVec.ofNat 32 (a / 16 * 16 + 128 * k)) 1408#32 (by rw [e1]; omega) (by decide)
  rw [e1] at this
  rw [toNat_ofNat_of_lt _ (by omega)]
  exact this

/-- Sixteen divides every chunk's first row, -/
theorem start_dvd (a k : ℕ) : 16 ∣ start a k := by unfold start; omega

/-- and no chunk passes the last row. -/
theorem start_le (a k : ℕ) : start a k ≤ 1408 := by unfold start; omega

/-- The bound of the main loop, as printed, is the count of chunks. -/
def upW (n : BitVec 32) : BitVec 32 := Scalar.addi 0#32 (Scalar.muli (Scalar.divsi (Scalar.subi n 0#32) 1#32) 1#32)

/-- The upper bound of the main chunk loop is the count itself, as the loop is not unrolled. -/
theorem upW_eq (n : BitVec 32) : upW n = n := by
  unfold upW
  rw [Scalar.muli_divsi_one]
  show 0#32 + (n - 0#32) = n
  rw [BitVec.sub_zero, BitVec.zero_add]

/-- The main chunk loop makes as many trips as there are chunks. -/
theorem main_trips {n : ℕ} (hn : n < 2 ^ 30) : Scf.trips 0#32 (upW (BitVec.ofNat 32 n)) 1#32 = n := by
  rw [upW_eq]
  unfold Scf.trips
  rw [toInt_ofNat_small n (by omega)]
  simp

/-- The main chunk loop ends: its counter does not wrap. -/
theorem main_ok {n : ℕ} (hn : n < 2 ^ 30) : Scf.OK 0#32 (upW (BitVec.ofNat 32 n)) 1#32 := by
  unfold Scf.OK
  rw [main_trips hn]
  refine ⟨by decide, ?_⟩
  simp; omega

end Cert.Proof.ChunkWords

end
-- ==== Proof.KernelWords.lean ====
/- The side conditions the kernel's body assumes about the words it reads from its tables, from the numbers those words
   hold. -/
module

public import proofs.«01_k».proof.Kernel
public import proofs.«01_k».proof.KernelIdeal
public import proofs.«01_k».proof.Proof.ChunkWords

@[expose] public section

namespace Cert.Proof.Kernel

open Idealize.ShloMosaic Cert.Kernel Cert.Proof.ChunkWords

/-- The expert number read is below 60: the two reads of the table of row starts are in range. -/
theorem chk1_of {i : grid0.Coords} {v3 v8 : BitVec 32} {e : ℕ} (h8 : v8 = BitVec.ofNat 32 e) (he : e < 60) : k0_chk1 i v3 v8 := by
  subst h8
  have e1 : k0_off3 (BitVec.ofNat 32 e) = ![e] := by
    unfold k0_off3
    show ![(BitVec.ofNat 32 e).toNat] = _
    rw [WordCmp.toNat_ofNat_of_lt (by omega)]
  have e2 : k0_off4 (BitVec.ofNat 32 e) = ![e + 1] := by
    unfold k0_off4
    show ![(BitVec.ofNat 32 e + BitVec.ofNat 32 1).toNat] = _
    rw [← BitVec.ofNat_add, WordCmp.toNat_ofNat_of_lt (by omega)]
  refine ⟨fun _ a => ?_, fun _ a => ?_⟩
  · rw [e1]
    match a with
    | ⟨0, _⟩ => show e + 1 ≤ 61; omega
  · rw [e2]
    match a with
    | ⟨0, _⟩ => show e + 1 + 1 ≤ 61; omega

/-- The bounds of the chunk loop, by the words of the group's first and last row. -/
theorem t2_loop_eq (v10 v13 : BitVec 32) : k0_t2_loop v10 v13 = ⟨0#32, upW (countW v10 v13), 1#32⟩ := rfl

/-- The chunk loop makes as many trips as the group's rows have chunks. -/
theorem t2_trips {v10 v13 : BitVec 32} {lo hi : ℕ} (h10 : v10 = BitVec.ofNat 32 lo) (h13 : v13 = BitVec.ofNat 32 hi)
    (h : lo ≤ hi) (hb : hi < 1000000) : (k0_t2_loop v10 v13).trips = nchunks lo hi := by
  subst h10 h13
  rw [t2_loop_eq]
  show Scf.trips 0#32 (upW (countW _ _)) 1#32 = _
  rw [countW_word h (by omega)]
  exact main_trips (by unfold nchunks; omega)

/-- Where a chunk of the output is read and written. -/
theorem off11_eq (v10 v13 : BitVec 32) (t1 : Fin k0_t1_loop.trips) (t2 : Fin (k0_t2_loop v10 v13).trips) :
    k0_off11 v10 v13 t1 t2 = ![(startW v10 t2.val).toNat, (Scalar.muli (Scf.iv 0#32 1#32 t1) 128#32).toNat] := rfl

/-- Where a chunk of the activations is read. -/
theorem off10_eq (v10 v13 : BitVec 32) (t2 : Fin (k0_t2_loop v10 v13).trips) :
    k0_off10 v10 v13 t2 = ![(startW v10 t2.val).toNat, 0] := rfl

/-- The word that is a multiple of eight at a chunk. -/
theorem mult10_eq (v10 v13 : BitVec 32) (t2 : Fin (k0_t2_loop v10 v13).trips) :
    k0_mult10 v10 v13 t2 = startW v10 t2.val := rfl

/-- A trip of the tile loop is below eleven. -/
theorem t1_lt (t1 : Fin k0_t1_loop.trips) : t1.val < 11 := lt_of_lt_of_eq t1.isLt (by decide)

/-- The column at which tile `t1` starts. -/
theorem col_word (t1 : Fin k0_t1_loop.trips) : (Scalar.muli (Scf.iv 0#32 1#32 t1) 128#32).toNat = 128 * t1.val := by
  have h := t1_lt t1
  generalize t1.val = t at h ⊢
  interval_cases t <;> decide

/-- The rest of the chunk loop makes no trip. -/
theorem t3_empty (v10 v13 : BitVec 32) : ∀ t : Fin (k0_t3_loop v10 v13).trips, False :=
  Scf.rem_no_trip (0#32) (Scalar.subi (countW v10 v13) 0#32)

/-- The rest of the chunk loop ends: its counter does not wrap. -/
theorem t3_ok (v10 v13 : BitVec 32) : (k0_t3_loop v10 v13).OK := Scf.rem_ok (0#32) (Scalar.subi (countW v10 v13) 0#32)

/-- The checks of a visit hold for a group whose bounds are in range. -/
theorem chk2_of {i : grid0.Coords} {v3 v10 v13 : BitVec 32} {lo hi : ℕ} (h10 : v10 = BitVec.ofNat 32 lo) (h13 : v13 = BitVec.ofNat 32 hi)
    (h : lo ≤ hi) (hb : hi < 1000000) : k0_chk2 i v3 v10 v13 := by
  have ht := t2_trips h10 h13 h hb
  have hc : nchunks lo hi < 1000000 := by unfold nchunks; omega
  have hst : ∀ t2 : Fin (k0_t2_loop v10 v13).trips, (startW v10 t2.val).toNat = start lo t2.val := by
    intro t2
    have := lt_of_lt_of_eq t2.isLt ht
    have := start_le lo t2.val
    generalize t2.val = k at *
    rw [h10, startW_word (by omega) (by omega), WordCmp.toNat_ofNat_of_lt (by omega)]
  refine ⟨fun _ => ?_, fun t2 _ => ?_, fun t2 _ a => ?_, fun t1 t2 _ a => ?_, fun t1 t2 _ hinb => ?_, fun _ => t3_ok _ _,
    fun t3 _ => (t3_empty _ _ t3).elim, fun t3 _ => (t3_empty _ _ t3).elim,
    fun _ t3 _ => (t3_empty _ _ t3).elim, fun _ t3 _ => (t3_empty _ _ t3).elim⟩
  · subst h10 h13
    rw [t2_loop_eq]
    show Scf.OK 0#32 (upW (countW _ _)) 1#32
    rw [countW_word h (by omega)]
    exact main_ok (by omega)
  · rw [mult10_eq, hst]
    exact start_dvd _ _
  · rw [off10_eq, hst]
    have := start_le lo t2.val
    match a with
    | ⟨0, _⟩ => show start lo t2.val + 128 ≤ 1536; omega
    | ⟨1, _⟩ => show 0 + 2048 ≤ 2048; omega
  · rw [off11_eq, hst, col_word]
    have := start_le lo t2.val
    have := t1_lt t1
    match a with
    | ⟨0, _⟩ => show start lo t2.val + 128 ≤ 1536; omega
    | ⟨1, _⟩ => show 128 * t1.val + 128 ≤ 1408; omega
  · have hd := start_dvd lo t2.val
    have e : k0_off11 v10 v13 t1 t2 = ![start lo t2.val, 128 * t1.val] := by rw [off11_eq, hst, col_word]
    refine Or.inr ⟨by decide, rfl, Or.inl ⟨?_, by show 2 ∣ 128; decide⟩⟩
    show 2 ∣ k0_off11 v10 v13 t1 t2 0
    rw [e]
    show 2 ∣ start lo t2.val
    omega

end Cert.Proof.Kernel

namespace Cert.Proof.KernelIdeal

open Idealize.ShloMosaic Cert.KernelIdeal Cert.Proof.ChunkWords

/-- The idealized kernel reads the same words and assumes the same of them. -/
theorem chk1_of {i : grid0.Coords} {v3 v8 : BitVec 32} {e : ℕ} (h8 : v8 = BitVec.ofNat 32 e) (he : e < 60) : k0_chk1 i v3 v8 :=
  Cert.Proof.Kernel.chk1_of (i := i) (v3 := v3) h8 he

/-- The checks of a visit hold for a group whose bounds are in range. -/
theorem chk2_of {i : grid0.Coords} {v3 v10 v13 : BitVec 32} {lo hi : ℕ} (h10 : v10 = BitVec.ofNat 32 lo) (h13 : v13 = BitVec.ofNat 32 hi)
    (h : lo ≤ hi) (hb : hi < 1000000) : k0_chk2 i v3 v10 v13 :=
  Cert.Proof.Kernel.chk2_of (i := i) (v3 := v3) h10 h13 h hb

/-- The chunk loop makes as many trips as the group's rows have chunks. -/
theorem t2_trips {v10 v13 : BitVec 32} {lo hi : ℕ} (h10 : v10 = BitVec.ofNat 32 lo) (h13 : v13 = BitVec.ofNat 32 hi)
    (h : lo ≤ hi) (hb : hi < 1000000) : (k0_t2_loop v10 v13).trips = nchunks lo hi :=
  Cert.Proof.Kernel.t2_trips h10 h13 h hb

end Cert.Proof.KernelIdeal
-- ==== Proof.KernelPoints.lean ====
/- The words the kernel's body reads from its tables at a grid point, and the pipeline's side condition of the tables. -/
module

public import proofs.«01_k».proof.Proof.Gen.Kernel.Launch
public import proofs.«01_k».proof.Proof.Gen.Kernel.Skeleton
public import proofs.«01_k».proof.Proof.KernelTables
public import proofs.«01_k».proof.Proof.KernelWords
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Routing
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The one place of a rectangle of one element along one axis. -/
theorem point_eq {N : ℕ} (off : Fin 1 → ℕ) (inb : ∀ a, off a + S1.size a ≤ (shape1 N).size a)
    (h1 : (Rect.unit (s := shape1 N) off S1.size inb).shape.numel = 1) (k : Fin N) (hk : off 0 = k.val) :
    (Rect.unit (s := shape1 N) off S1.size inb).point h1 = ix1 k := by
  funext a
  match a with
  | ⟨0, _⟩ =>
    apply Fin.ext
    refine (Rect.emb_apply _ _ _).trans ?_
    have h0 : ∀ x : Fin 1, off 0 + 1 * x.val = k.val := fun x => by omega
    exact h0 _

/-- A grid coordinate is below 60. -/
theorem coord_lt (i : grid0.Coords) : (i 0).val < 60 := (i 0).isLt

/-- The index maps of the windows read the table of groups at the grid point. -/
theorem off1_eq (i : grid0.Coords) : k0_off1 i 0 = (i 0).val := by
  have := coord_lt i
  unfold k0_off1
  show (BitVec.ofNat 32 (i 0).val).toNat = _
  exact WordCmp.toNat_ofNat_of_lt (by omega)

/-- The body reads the table of groups at the grid point. -/
theorem off2_eq (i : grid0.Coords) : k0_off2 i 0 = (i 0).val := off1_eq i

variable {gs : HostFacts.Sizes} {pf : pre0.Contents (Elt F)}

/-- The expert grid point `i` visits, as an index. -/
abbrev expAt (gs : HostFacts.Sizes) (i : grid0.Coords) : Fin 60 := HostFacts.expert gs ⟨(i 0).val, coord_lt i⟩

/-- The word of the expert read at grid point `i` by the windows. -/
theorem at_off1 (h : HostFacts.Tables gs (pf 0) (pf 1) (pf 2)) (i : grid0.Coords) (hinb) (h1) :
    pf.at 0 (Rect.unit (s := S60) ![(Scalar.indexCast (BitVec.ofNat 32 (i 0).val)).toNat] S1.size hinb) h1 = BitVec.ofNat 32 (expAt gs i).val :=
  (congrArg (pf 0) (point_eq _ hinb h1 ⟨(i 0).val, coord_lt i⟩ (off1_eq i))).trans (h.expert _)

/-- The block of codes at a point is that of the visited group. -/
theorem map_1 (h : HostFacts.Tables gs (pf 0) (pf 1) (pf 2)) (i : grid0.Coords) :
    cc0_transform_1 k0_off1_inb numel1_S1 pf i = ![(expAt gs i).val, 0, 0, 0] := by
  have he := (expAt gs i).isLt
  unfold cc0_transform_1
  exact congrArg (fun n : ℕ => ![n, 0, 0, 0]) ((congrArg BitVec.toNat (at_off1 h i (k0_off1_inb i) numel1_S1)).trans (WordCmp.toNat_ofNat_of_lt (by omega)))

/-- The block of codebook words at a point is that of the visited group. -/
theorem map_2 (h : HostFacts.Tables gs (pf 0) (pf 1) (pf 2)) (i : grid0.Coords) :
    cc0_transform_2 k0_off1_inb numel1_S1 pf i = ![(expAt gs i).val, 0, 0] := by
  have he := (expAt gs i).isLt
  unfold cc0_transform_2
  exact congrArg (fun n : ℕ => ![n, 0, 0]) ((congrArg BitVec.toNat (at_off1 h i (k0_off1_inb i) numel1_S1)).trans (WordCmp.toNat_ofNat_of_lt (by omega)))

/-- The block of scales at a point is that of the visited group. -/
theorem map_3 (h : HostFacts.Tables gs (pf 0) (pf 1) (pf 2)) (i : grid0.Coords) :
    cc0_transform_3 k0_off1_inb numel1_S1 pf i = ![(expAt gs i).val, 0, 0] := by
  have he := (expAt gs i).isLt
  unfold cc0_transform_3
  exact congrArg (fun n : ℕ => ![n, 0, 0]) ((congrArg BitVec.toNat (at_off1 h i (k0_off1_inb i) numel1_S1)).trans (WordCmp.toNat_ofNat_of_lt (by omega)))

/-- The blocks that the tables pick lie inside their arrays. -/
theorem ok_of (h : HostFacts.Tables gs (pf 0) (pf 1) (pf 2)) : ok0 pf := by
  unfold ok0
  refine ⟨fun i => ?_, fun i => ?_, fun i => ?_⟩
  · have he := (expAt gs i).isLt
    refine ⟨fun a => ?_, Or.inr (Or.inr ⟨by decide, rfl, ?_, rfl⟩)⟩
    · rw [map_1 h]
      match a with
      | ⟨0, _⟩ => show ((expAt gs i).val + 1) * 1 ≤ 60; omega
      | ⟨1, _⟩ => show (0 + 1) * 2 ≤ 2; omega
      | ⟨2, _⟩ => show (0 + 1) * 1408 ≤ 1408; omega
      | ⟨3, _⟩ => show (0 + 1) * 256 ≤ 256; omega
    · show cc0_transform_1 k0_off1_inb numel1_S1 pf i 2 * 1408 = 0
      rw [map_1 h]; rfl
  · have he := (expAt gs i).isLt
    refine ⟨fun a => ?_, Or.inl rfl⟩
    rw [map_2 h]
    match a with
    | ⟨0, _⟩ => show ((expAt gs i).val + 1) * 1 ≤ 60; omega
    | ⟨1, _⟩ => show (0 + 1) * 16 ≤ 16; omega
    | ⟨2, _⟩ => show (0 + 1) * 128 ≤ 128; omega
  · have he := (expAt gs i).isLt
    refine ⟨fun a => ?_, Or.inl rfl⟩
    rw [map_3 h]
    match a with
    | ⟨0, _⟩ => show ((expAt gs i).val + 1) * 1 ≤ 60; omega
    | ⟨1, _⟩ => show (0 + 1) * 1 ≤ 1; omega
    | ⟨2, _⟩ => show (0 + 1) * 1408 ≤ 1408; omega

/-- The visit's guard: the point lies below the number of groups with rows. -/
theorem cond2_iff (h : HostFacts.Tables gs (pf 0) (pf 1) (pf 2)) (i : grid0.Coords) (v3 : BitVec 32) (h3 : v3 = BitVec.ofNat 32 (HostFacts.used gs)) :
    k0_cond2 i v3 = 1#1 ↔ (i 0).val < HostFacts.used gs := by
  have hu := HostFacts.used_le (gs := gs)
  have hi := coord_lt i
  have e1 : (BitVec.ofNat 32 (i 0).val).toInt = ((i 0).val : ℤ) := WordCmp.toInt_ofNat_of_lt (w := 32) (by omega)
  have e2 : (BitVec.ofNat 32 (HostFacts.used gs)).toInt = (HostFacts.used gs : ℤ) := WordCmp.toInt_ofNat_of_lt (w := 32) (by omega)
  subst h3
  unfold k0_cond2
  show IntOp.cmpi .ne ((IntOp.cmpi .slt (BitVec.ofNat 32 (i 0).val) (BitVec.ofNat 32 (HostFacts.used gs))).setWidth 32) 0#32 = 1#1 ↔ _
  rw [WordCmp.cmpi_slt_eq, e1, e2]
  by_cases hlt : (i 0).val < HostFacts.used gs
  · rw [decide_eq_true (by omega)]; exact ⟨fun _ => hlt, fun _ => by decide⟩
  · rw [decide_eq_false (by omega)]; exact ⟨fun hh => absurd hh (by decide), fun hh => absurd hh hlt⟩

/-- The output is cleared at the first grid point. -/
theorem cond1_iff (i : grid0.Coords) : k0_cond1 i = 1#1 ↔ (i 0).val = 0 := by
  have hi := coord_lt i
  unfold k0_cond1
  generalize (i 0).val = k at *
  interval_cases k <;> decide

end Cert.Proof.Kernel

end
-- ==== Proof.KernelLoops.lean ====
/- The tile loop of the kernel, as a frame needs it: one trip decodes a weight tile into the scratch and runs the
   chunks of rows over it; the inputs stay as they were, the output and the scratch hold something. -/
module

public import proofs.«01_k».proof.Proof.Gen.Kernel.Loops

@[expose] public section

set_option maxRecDepth 65536

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option maxHeartbeats 40000000 in
/-- The tile loop by its invariant: before every trip the four inputs are held at their contents, the output and the
    scratch at some contents. -/
@[sl_loop] def loopInv_k0_t1 (E : Set ℕ) (c : Dev nD) (i : grid0.Coords) (arg1 : Memref sig .tc .smem S60 .i32) (harg1 : arg1.IsWhole) (arg2 : Memref sig .tc .smem S61 .i32) (harg2 : arg2.IsWhole) (arg3 : Memref sig .tc .smem S1 .i32) (harg3 : arg3.IsWhole) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole) (v3 : Elt F .i32) (k0_h2 : k0_cond2 i v3 = 1#1) (v10 : Elt F .i32) (v13 : Elt F .i32) (k0_hw2 : k0_chk2 i v3 v10 v13) (v31 : BitVec 32) (v35 : BitVec 32) (v46 : BitVec 1) (v47 : BitVec 32) (c0_i32_15 : BitVec 32) (X4 : BufTy.Contents (Elt F) arg4.view.ty) (X5 : BufTy.Contents (Elt F) arg5.view.ty) (X6 : BufTy.Contents (Elt F) arg6.view.ty) (X7 : BufTy.Contents (Elt F) arg7.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 v3 k0_h2 v10 v13 k0_hw2 v31 v35 v46 v47 c0_i32_15 where
  inv := fun _ _ => iprop((arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (∃ f, (arg8.view.loc (c : Thread nD τ) ↦[arg8.view.set]{fullShare} f))
    ∗ (∃ f, (arg9.view.loc (c : Thread nD τ) ↦[arg9.view.set]{fullShare} f)))
  step := fun k acc => by
    unfold k0_t1_body
    iintro ⟨H4, H5, H6, H7, ⟨%f8, H8⟩, ⟨%f9, H9⟩⟩
    sl_exec_parts
    sl_step
    isplitl [H4]; · iexact H4
    isplitl [H5]; · iexact H5
    isplitl [H6]; · iexact H6
    isplitl [H7]; · iexact H7
    isplitl [H8]; · iexists _; iexact H8
    iexists _; iexact H9

end Cert.Proof.Kernel

end
-- ==== Proof.KernelRun.lean ====
module

public import proofs.«01_k».proof.Proof.Gen.Kernel.Launch
public import proofs.«01_k».proof.Proof.Gen.Kernel.Skeleton
public import proofs.«01_k».proof.Proof.KernelPoints
public import proofs.«01_k».proof.Proof.KernelLoops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Routing
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The start of the visited group is read at the number of the group. -/
theorem off3_eq {v8 : BitVec 32} {e : ℕ} (h8 : v8 = BitVec.ofNat 32 e) (he : e < 60) : k0_off3 v8 0 = e := by
  subst h8
  show (BitVec.ofNat 32 e).toNat = e
  exact WordCmp.toNat_ofNat_of_lt (by omega)

/-- The end of the visited group is read at the number after that of the group. -/
theorem off4_eq {v8 : BitVec 32} {e : ℕ} (h8 : v8 = BitVec.ofNat 32 e) (he : e < 60) : k0_off4 v8 0 = e + 1 := by
  subst h8
  show (BitVec.ofNat 32 e + 1#32).toNat = e + 1
  rw [show BitVec.ofNat 32 e + 1#32 = BitVec.ofNat 32 (e + 1) from (BitVec.ofNat_add ..).symm]
  exact WordCmp.toNat_ofNat_of_lt (by omega)

/-- The word read at one place of the first table. -/
theorem read_tb0 (c : Dev nD) (x : TbBuf0 (F := F) c tbM0_0) (off : Fin 1 → ℕ) (inb) (h1) (k : Fin 60) (hk : off 0 = k.val) :
    View.readAt (Elt F) tbM0_0.view (Rect.unit (s := S60) off S1.size inb).toLoadRect x (Shape.Idx.first h1) = x (ix1 k) := by
  show x _ = x _
  refine congrArg x ?_
  funext a
  match a with
  | ⟨0, _⟩ => exact Fin.ext (show off 0 + 1 * 0 = k.val by omega)

/-- The word read at one place of the second table. -/
theorem read_tb1 (c : Dev nD) (x : TbBuf0 (F := F) c tbM0_1) (off : Fin 1 → ℕ) (inb) (h1) (k : Fin 61) (hk : off 0 = k.val) :
    View.readAt (Elt F) tbM0_1.view (Rect.unit (s := S61) off S1.size inb).toLoadRect x (Shape.Idx.first h1) = x (ix1 k) := by
  show x _ = x _
  refine congrArg x ?_
  funext a
  match a with
  | ⟨0, _⟩ => exact Fin.ext (show off 0 + 1 * 0 = k.val by omega)

/-- The word read at the third table's only place. -/
theorem read_tb2 (c : Dev nD) (x : TbBuf0 (F := F) c tbM0_2) (off : Fin 1 → ℕ) (inb) (h1) (k : Fin 1) (hk : off 0 = k.val) :
    View.readAt (Elt F) tbM0_2.view (Rect.unit (s := S1) off S1.size inb).toLoadRect x (Shape.Idx.first h1) = x (ix1 k) := by
  show x _ = x _
  refine congrArg x ?_
  funext a
  match a with
  | ⟨0, _⟩ => exact Fin.ext (show off 0 + 1 * 0 = k.val by omega)

set_option maxHeartbeats 1000000 in
/-- The body at the first grid point, when it visits a group: it gives the inputs and the tables back as they were, the output and the scratch at
    some contents. -/
theorem visitFirst {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec F S1536x2048 .bf16) (x1 : Vec F S1x2x1408x256 .i8) (x2 : Vec F S1x16x128 .i32) (x3 : Vec F S1x1x1408 .f32) (xt0 : TbBuf0 (F := F) c tbM0_0) (xt1 : TbBuf0 (F := F) c tbM0_1) (xt2 : TbBuf0 (F := F) c tbM0_2)
    (hT : HostFacts.Tables gs xt0 xt1 xt2) (h1 : k0_cond1 i = 1#1) (h2 : k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : visitFirst.sl.r c xt2 = BitVec.ofNat 32 (HostFacts.used gs) := by
      unfold visitFirst.sl.r
      exact (read_tb2 c xt2 ![0] _ _ 0 rfl).trans hT.used
    have h2' := h2
    rw [← hr] at h2'
    sl_exec_parts
    obtain ⟨e, hE⟩ : ∃ e : Fin 60, e = expAt gs i := ⟨_, rfl⟩
    have he := e.isLt
    have hr2 : visitFirst.sl.r_2 c i xt0 = BitVec.ofNat 32 e.val := by
      unfold visitFirst.sl.r_2
      rw [hE]
      exact (read_tb0 c xt0 _ _ _ ⟨(i 0).val, coord_lt i⟩ (off2_eq i)).trans (hT.expert _)
    have hc1 : k0_chk1 i (visitFirst.sl.r c xt2) (visitFirst.sl.r_2 c i xt0) := chk1_of hr2 he
    sl_exec
    have hr3 : visitFirst.sl.r_3 c i xt0 xt1 xt2 h2' hc1 = BitVec.ofNat 32 (HostFacts.off gs e.val) := by
      unfold visitFirst.sl.r_3
      exact (read_tb1 c xt1 _ _ _ ⟨e.val, by omega⟩ (off3_eq hr2 he)).trans (hT.off ⟨e.val, by omega⟩)
    have hr4 : visitFirst.sl.r_4 c i xt0 xt1 xt2 h2' hc1 = BitVec.ofNat 32 (HostFacts.off gs (e.val + 1)) := by
      unfold visitFirst.sl.r_4
      exact (read_tb1 c xt1 _ _ _ ⟨e.val + 1, by omega⟩ (off4_eq hr2 he)).trans (hT.off ⟨e.val + 1, by omega⟩)
    have hlo := HostFacts.off_mono (gs := gs) (Nat.le_succ e.val)
    have hhi := HostFacts.off_le hs (e.val + 1)
    have hc2 : k0_chk2 i (visitFirst.sl.r c xt2) (visitFirst.sl.r_3 c i xt0 xt1 xt2 h2' hc1) (visitFirst.sl.r_4 c i xt0 xt1 xt2 h2' hc1) :=
      chk2_of hr3 hr4 hlo (by omega)
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _, _; isplitr; swap; · iexact HS0
      ipureintro; rfl
    isplitl [HT0]; · iexact HT0
    isplitl [HT1]; · iexact HT1
    iexact HT2

set_option maxHeartbeats 1000000 in
/-- The body at a later grid point that visits a group: it gives the inputs and the tables back as they were, the output and the scratch at
    some contents. -/
theorem visitLater {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec F S1536x2048 .bf16) (x1 : Vec F S1x2x1408x256 .i8) (x2 : Vec F S1x16x128 .i32) (x3 : Vec F S1x1x1408 .f32) (xt0 : TbBuf0 (F := F) c tbM0_0) (xt1 : TbBuf0 (F := F) c tbM0_1) (xt2 : TbBuf0 (F := F) c tbM0_2)
    (hT : HostFacts.Tables gs xt0 xt1 xt2) (h1 : ¬ k0_cond1 i = 1#1) (h2 : k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : visitLater.sl.r c xt2 = BitVec.ofNat 32 (HostFacts.used gs) := by
      unfold visitLater.sl.r
      exact (read_tb2 c xt2 ![0] _ _ 0 rfl).trans hT.used
    have h2' := h2
    rw [← hr] at h2'
    sl_exec_parts
    obtain ⟨e, hE⟩ : ∃ e : Fin 60, e = expAt gs i := ⟨_, rfl⟩
    have he := e.isLt
    have hr2 : visitLater.sl.r_2 c i xt0 = BitVec.ofNat 32 e.val := by
      unfold visitLater.sl.r_2
      rw [hE]
      exact (read_tb0 c xt0 _ _ _ ⟨(i 0).val, coord_lt i⟩ (off2_eq i)).trans (hT.expert _)
    have hc1 : k0_chk1 i (visitLater.sl.r c xt2) (visitLater.sl.r_2 c i xt0) := chk1_of hr2 he
    sl_exec
    have hr3 : visitLater.sl.r_3 c i xt0 xt1 xt2 h2' hc1 = BitVec.ofNat 32 (HostFacts.off gs e.val) := by
      unfold visitLater.sl.r_3
      exact (read_tb1 c xt1 _ _ _ ⟨e.val, by omega⟩ (off3_eq hr2 he)).trans (hT.off ⟨e.val, by omega⟩)
    have hr4 : visitLater.sl.r_4 c i xt0 xt1 xt2 h2' hc1 = BitVec.ofNat 32 (HostFacts.off gs (e.val + 1)) := by
      unfold visitLater.sl.r_4
      exact (read_tb1 c xt1 _ _ _ ⟨e.val + 1, by omega⟩ (off4_eq hr2 he)).trans (hT.off ⟨e.val + 1, by omega⟩)
    have hlo := HostFacts.off_mono (gs := gs) (Nat.le_succ e.val)
    have hhi := HostFacts.off_le hs (e.val + 1)
    have hc2 : k0_chk2 i (visitLater.sl.r c xt2) (visitLater.sl.r_3 c i xt0 xt1 xt2 h2' hc1) (visitLater.sl.r_4 c i xt0 xt1 xt2 h2' hc1) :=
      chk2_of hr3 hr4 hlo (by omega)
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _, _; isplitr; swap; · iexact HS0
      ipureintro; rfl
    isplitl [HT0]; · iexact HT0
    isplitl [HT1]; · iexact HT1
    iexact HT2

set_option maxHeartbeats 1000000 in
/-- The body at the first grid point, when no group has rows: it gives the inputs and the tables back as they were, the output and the scratch at
    some contents. -/
theorem idleFirst {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec F S1536x2048 .bf16) (x1 : Vec F S1x2x1408x256 .i8) (x2 : Vec F S1x16x128 .i32) (x3 : Vec F S1x1x1408 .f32) (xt0 : TbBuf0 (F := F) c tbM0_0) (xt1 : TbBuf0 (F := F) c tbM0_1) (xt2 : TbBuf0 (F := F) c tbM0_2)
    (hT : HostFacts.Tables gs xt0 xt1 xt2) (h1 : k0_cond1 i = 1#1) (h2 : ¬ k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : idleFirst.sl.r c xt2 = BitVec.ofNat 32 (HostFacts.used gs) := by
      unfold idleFirst.sl.r
      exact (read_tb2 c xt2 ![0] _ _ 0 rfl).trans hT.used
    have h2' := h2
    rw [← hr] at h2'
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _, _; isplitr; swap; · iexact HS0
      ipureintro; rfl
    isplitl [HT0]; · iexact HT0
    isplitl [HT1]; · iexact HT1
    iexact HT2

set_option maxHeartbeats 1000000 in
/-- The body at a later grid point that visits no group: it gives the inputs and the tables back as they were, the output and the scratch at
    some contents. -/
theorem idleLater {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec F S1536x2048 .bf16) (x1 : Vec F S1x2x1408x256 .i8) (x2 : Vec F S1x16x128 .i32) (x3 : Vec F S1x1x1408 .f32) (xt0 : TbBuf0 (F := F) c tbM0_0) (xt1 : TbBuf0 (F := F) c tbM0_1) (xt2 : TbBuf0 (F := F) c tbM0_2)
    (hT : HostFacts.Tables gs xt0 xt1 xt2) (h1 : ¬ k0_cond1 i = 1#1) (h2 : ¬ k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : idleLater.sl.r c xt2 = BitVec.ofNat 32 (HostFacts.used gs) := by
      unfold idleLater.sl.r
      exact (read_tb2 c xt2 ![0] _ _ 0 rfl).trans hT.used
    have h2' := h2
    rw [← hr] at h2'
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _, _; isplitr; swap; · iexact HS0
      ipureintro; rfl
    isplitl [HT0]; · iexact HT0
    isplitl [HT1]; · iexact HT1
    iexact HT2

end Cert.Proof.Kernel

end
-- ==== Proof.KernelFrame.lean ====
module

public import proofs.«01_k».proof.Proof.Gen.Kernel.Launch
public import proofs.«01_k».proof.Proof.Gen.Kernel.Skeleton
public import proofs.«01_k».proof.Proof.KernelRun
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Routing
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The tables' side condition of the pipeline, when every group size is at most 1536. -/
theorem okM (hs : HostFacts.Small (gsOf m 0)) : Ok m := ok_of (tables m 0 hs)

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- After a point, the buffer of window 1 holds what the proof data say. -/
theorem after0_1 (hO : Ok m) (c : Dev nD) (t : Fin (cfgM m hO).N) : (dats m hO 0 c).after 1 t = iblk m hO c 1 t := by dsimp only [dats]; try rfl
/-- After a point, the buffer of window 2 holds what the proof data say. -/
theorem after0_2 (hO : Ok m) (c : Dev nD) (t : Fin (cfgM m hO).N) : (dats m hO 0 c).after 2 t = iblk m hO c 2 t := by dsimp only [dats]; try rfl
/-- After a point, the buffer of window 3 holds what the proof data say. -/
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before a point, the buffer of window 1 holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before a point, the buffer of window 2 holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Before a point, the buffer of window 3 holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ d, owns (c : Thread nD τ) (ms0_4 m hO t) fullShare d))

/-- The body at any point: the inputs' memrefs hold their blocks (`before0_W`); so the
    run applies; the invariant hands the body its scratch buffers at some contents (and the generator register) and takes them back at some contents (`PhiA_eq`); the core owes nothing throughout. -/
theorem sound_body (hO : Ok m) (hs : HostFacts.Small (gsOf m 0)) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq, PhiA0_eq]
  iintro ⟨⟨⟨HS0, Hg⟩, ⟨HT0, HT1, HT2⟩⟩, Ho, ⟨%d0, H0⟩, ⟨%d1, H1⟩, ⟨%d2, H2⟩, ⟨%d3, H3⟩, ⟨%d4, H4⟩⟩
  by_cases h1 : k0_cond1 (grid0.coords t) = 1#1 <;> by_cases h2 : k0_cond2 (grid0.coords t) (BitVec.ofNat 32 (HostFacts.used (gsOf m 0))) = 1#1
  · iapply (visitFirst hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · iapply (idleFirst hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · iapply (visitLater hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · iapply (idleLater hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hs : HostFacts.Small (gsOf m 0)) (c : Dev nD) : BodyObligation (dats (F := F) m hO 0 c) (defs₀ (F := F)) Variants.none () Set.univ forgets0 := fun t => by
  rw [bigSep_W0, bigSep_W0, defs₀_row m hO]
  exact triple_restated (sound_body m hO hs c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hs : HostFacts.Small (gsOf m 0)) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hs c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main (hO : Ok m) (hs : HostFacts.Small (gsOf m 0)) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hs)

/-- `frame` without the counters: the argument arrays end unchanged. -/
theorem unchanged (hO : Ok m) (hs : HostFacts.Small (gsOf m 0)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO hs)

/-- Every run ends with the arguments unchanged and every semaphore at zero, when every group size is at most 1536. -/
theorem frame (hO : Ok m) (hs : HostFacts.Small (gsOf m 0)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hs) ((θ_run defs _ _).mono (fun _ h => h.2) (run_main_quiescent m ρ hO hs))

end Cert.Proof.Kernel

end
-- ==== Proof.KernelIdealKit.lean ====
/- The idealized kernel up to its region and at a grid point: the contents of the arrays when the region is entered, the tables
   read off the launch memory, the blocks of the windows, and the frame claim from a run of the region. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone, proved from the map and the fact about the
    axes it reads (`hreadsK_W`) or decided, and restated over the pinned window, which unfolds to them. A window whose
    map reads a table gets none here. -/

/-- Window 0 (operand 3 (%1)) is fetched at the first point only, at any contents of the tables (its index map reads none). -/
theorem fetch0_0 (a : (pcfg0 (F := F)).Adm) : ∀ t : Fin (cfg0 a).N, ((cfg0 a).win 0).fetch t = true ↔ t.val % 60 = 0 :=
  (fun t => Pipeline.Window.fetchOf_const cc0_transform_0 (fun _ _ => rfl) (n := 60) (by decide) t : ∀ t : Fin grid0.N, Pipeline.Window.fetchOf grid0 false cc0_transform_0 t = true ↔ t.val % 60 = 0)
/-- Window 4 (result 0 (%2)) is written back at the last point only, at any contents of the tables (its index map reads none). -/
theorem flush0_4 (a : (pcfg0 (F := F)).Adm) : ∀ t : Fin (cfg0 a).N, ((cfg0 a).win 4).flush t = true ↔ t.val % 60 = 59 :=
  (fun t => Pipeline.Window.flushOf_const cc0_transform_4 (fun _ _ => rfl) (n := 60) (by decide) rfl t : ∀ t : Fin grid0.N, Pipeline.Window.flushOf grid0 true cc0_transform_4 t = true ↔ t.val % 60 = 59)

/-- The current staging memref of each window at point `t`: which of its buffers it is on. -/
abbrev st0_0 (a : (pcfg0 (F := F)).Adm) (t : Fin (cfg0 a).N) := ((cfg0 a).win 0).stage ((cfg0 a).slots t 0)
/-- The staging buffer of window 1 at a point. -/
abbrev st0_1 (a : (pcfg0 (F := F)).Adm) (t : Fin (cfg0 a).N) := ((cfg0 a).win 1).stage ((cfg0 a).slots t 1)
/-- The staging buffer of window 2 at a point. -/
abbrev st0_2 (a : (pcfg0 (F := F)).Adm) (t : Fin (cfg0 a).N) := ((cfg0 a).win 2).stage ((cfg0 a).slots t 2)
/-- The staging buffer of window 3 at a point. -/
abbrev st0_3 (a : (pcfg0 (F := F)).Adm) (t : Fin (cfg0 a).N) := ((cfg0 a).win 3).stage ((cfg0 a).slots t 3)
/-- The staging buffer of window 4 at a point. -/
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_aqlm_moe (grid0.coords t) (Memref.whole main_v24) (Memref.isWhole_whole _) (Memref.whole main_v5) (Memref.isWhole_whole _) (Memref.whole main_v31) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _)

/-! ## @main up to the region -/

/-- The host operations before the region, in order. -/
abbrev hostOps : List (HloOp τ sig (Elt F)) := List.flatten [hostOps0, hostOps0_1, hostOps0_2, hostOps0_3, hostOps0_4]

/-- Core `c`'s TensorCore buffers when the region is entered: after the host operations `hostOps0` (Launch.lean). -/
abbrev V (c : Dev nD) (b : Ref sig .tc) : Buf (Elt F) ((c : Thread nD τ).loc b) := StableHlo.after hostOps (fun b => m (c, b)) b

/-- These host lines make no new buffer. -/
theorem hostOps0_fresh : (hostOps0 : List (HloOp τ sig (Elt F))).Forall fun op => op.fresh = ∅ := by
  simp only [List.Forall]; repeat' constructor
/-- These host lines make no new buffer. -/
theorem hostOps0_1_fresh : (hostOps0_1 : List (HloOp τ sig (Elt F))).Forall fun op => op.fresh = ∅ := by
  simp only [List.Forall]; repeat' constructor
/-- These host lines make no new buffer. -/
theorem hostOps0_2_fresh : (hostOps0_2 : List (HloOp τ sig (Elt F))).Forall fun op => op.fresh = ∅ := by
  simp only [List.Forall]; repeat' constructor
/-- These host lines make no new buffer. -/
theorem hostOps0_3_fresh : (hostOps0_3 : List (HloOp τ sig (Elt F))).Forall fun op => op.fresh = ∅ := by
  simp only [List.Forall]; repeat' constructor
/-- These host lines make no new buffer. -/
theorem hostOps0_4_fresh : (hostOps0_4 : List (HloOp τ sig (Elt F))).Forall fun op => op.fresh = ∅ := by
  simp only [List.Forall]; repeat' constructor

/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- A buffer that no host operation writes is found by the region as launched. -/
theorem V_of (c : Dev nD) (b : Ref sig .tc) (h : (hostOps : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

/-- The host lines leave argument 0 as launched. -/
theorem V_main_arg0 (c : Dev nD) : V m c main_arg0 = m ((c : Thread nD τ).loc main_arg0) :=
  V_of m c main_arg0 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-- The host lines leave argument 1 as launched. -/
theorem V_main_arg1 (c : Dev nD) : V m c main_arg1 = m ((c : Thread nD τ).loc main_arg1) :=
  V_of m c main_arg1 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-- The host lines leave argument 2 as launched. -/
theorem V_main_arg2 (c : Dev nD) : V m c main_arg2 = m ((c : Thread nD τ).loc main_arg2) :=
  V_of m c main_arg2 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-- The host lines leave argument 3 as launched. -/
theorem V_main_arg3 (c : Dev nD) : V m c main_arg3 = m ((c : Thread nD τ).loc main_arg3) :=
  V_of m c main_arg3 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-- The host lines leave argument 4 as launched. -/
theorem V_main_arg4 (c : Dev nD) : V m c main_arg4 = m ((c : Thread nD τ).loc main_arg4) :=
  V_of m c main_arg4 (by
    simp only [hostOps, hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
   . -/
abbrev adm (hO : Ok m) : (pcfg0 (F := F)).Adm := ⟨tbl m, hO⟩
/-- The pipeline at the launched tables. -/
abbrev cfgM (hO : Ok m) : Pipeline.Cfg sig Λ₀ := cfg0 (adm m hO)

/-- Each table as the body is handed it: its whole buffer as a memref, and that memref's wholeness. -/
abbrev tbM0_0 : Memref sig .tc .smem S60 .i32 := Memref.whole main_v24
/-- The memory of prefetched table 0 is a whole buffer. -/
abbrev htbM0_0 : tbM0_0.IsWhole := Memref.isWhole_whole _
/-- The memory of prefetched table 1. -/
abbrev tbM0_1 : Memref sig .tc .smem S61 .i32 := Memref.whole main_v5
/-- The memory of prefetched table 1 is a whole buffer. -/
abbrev htbM0_1 : tbM0_1.IsWhole := Memref.isWhole_whole _
/-- The memory of prefetched table 2. -/
abbrev tbM0_2 : Memref sig .tc .smem S1 .i32 := Memref.whole main_v31
/-- The memory of prefetched table 2 is a whole buffer. -/
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The statement that a table's buffer holds its contents. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`the frame claim`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1536x2048 .bf16 := spec0_0.stage ((cfgM m hO).slots t 0)
/-- The staging memory of window 0 is a whole buffer. -/
abbrev hs0_0 (hO : Ok m) (t : Fin (cfgM m hO).N) : (ms0_0 m hO t).IsWhole := hstage0_0 (((cfgM m hO).slots t 0).cast nbuf0_0)
/-- The staging memory of window 1 at a point. -/
abbrev ms0_1 (hO : Ok m) (t : Fin (cfgM m hO).N) : Memref sig .tc .vmem S1x2x1408x256 .i8 := spec0_1.stage ((cfgM m hO).slots t 1)
/-- The staging memory of window 1 is a whole buffer. -/
abbrev hs0_1 (hO : Ok m) (t : Fin (cfgM m hO).N) : (ms0_1 m hO t).IsWhole := hstage0_1 (((cfgM m hO).slots t 1).cast nbuf0_1)
/-- The staging memory of window 2 at a point. -/
abbrev ms0_2 (hO : Ok m) (t : Fin (cfgM m hO).N) : Memref sig .tc .vmem S1x16x128 .i32 := spec0_2.stage ((cfgM m hO).slots t 2)
/-- The staging memory of window 2 is a whole buffer. -/
abbrev hs0_2 (hO : Ok m) (t : Fin (cfgM m hO).N) : (ms0_2 m hO t).IsWhole := hstage0_2 (((cfgM m hO).slots t 2).cast nbuf0_2)
/-- The staging memory of window 3 at a point. -/
abbrev ms0_3 (hO : Ok m) (t : Fin (cfgM m hO).N) : Memref sig .tc .vmem S1x1x1408 .f32 := spec0_3.stage ((cfgM m hO).slots t 3)
/-- The staging memory of window 3 is a whole buffer. -/
abbrev hs0_3 (hO : Ok m) (t : Fin (cfgM m hO).N) : (ms0_3 m hO t).IsWhole := hstage0_3 (((cfgM m hO).slots t 3).cast nbuf0_3)
/-- The staging memory of window 4 at a point. -/
abbrev ms0_4 (hO : Ok m) (t : Fin (cfgM m hO).N) : Memref sig .tc .vmem S1536x1408 .bf16 := spec0_4.stage ((cfgM m hO).slots t 4)
/-- The staging memory of window 4 is a whole buffer. -/
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S128x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.KernelIdeal

end
-- ==== Proof.KernelIdealTables.lean ====
/- The idealized kernel's three prefetched tables, read off the launch memory: what they hold under small group sizes, and the
   pipeline's side condition of them. -/
module

public import proofs.«01_k».proof.Proof.Gen.KernelIdeal.Launch
public import proofs.«01_k».proof.Proof.Gen.KernelIdeal.Skeleton
public import proofs.«01_k».proof.Proof.KernelIdealKit
public import proofs.«01_k».proof.Proof.HostFacts
public import Idealize.ShloMosaic.Lib.StableHlo.Run
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Routing
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Reads
attribute [local irreducible] Host.reduceWindow Host.reduce Host.sort2 Host.gather concatenate broadcastInDim

/-- The group sizes as launched. -/
abbrev gsOf (c : Dev nD) : HostFacts.Sizes := m ((c : Thread nD τ).loc main_arg1)

/-- The number of groups with rows, as the host computes it. -/
theorem V_v31 (c : Dev nD) : V m c main_v31 = shapeCast S1 (Host.reduce IntOp.addi
    (extui 32 (cmpi .sgt (gsOf m c) (broadcastInDim S60 ![] bcast_S_S60 (constantI S_ 32 0#32))) natLt_1_32)
    (constantI S_ 32 0#32) reducesTo_S60_S_d0 h_S_) shapeCasts_S_S1 := by
  unfold V hostOps
  simp only [List.flatten_cons, List.flatten_nil, List.append_nil, List.cons_append, List.nil_append]
  after_results
  rfl

/-- The table of row starts, as the host computes it. -/
theorem V_v5 (c : Dev nD) : V m c main_v5 = concatenate S61 0 [⟨S1, broadcastInDim S1 ![] bcast_S_S1 (constantI S_ 32 0#32)⟩,
    ⟨S60, Host.reduceWindow IntOp.addi ![60] ![1] ![59] ![0] (gsOf m c) (broadcastInDim S_ ![] bcast_S_S_ (constantI S_ 32 0#32)) reduceWindows_S60_S60_w60s1p59_0 h_S_⟩] concatenates_S1_S60_S61_d0 := by
  unfold V hostOps
  simp only [List.flatten_cons, List.flatten_nil, List.append_nil, List.cons_append, List.nil_append]
  after_results
  rfl

/-- The places read by the grid points, as the host computes them from the number of groups with rows. -/
def placesT (n : IVec S_ 32) : IVec S60 32 :=
  minsi (iotaInDim S60 32 0) (broadcastInDim S60 ![] bcast_S_S60 (maxsi (subi n (constantI S_ 32 1#32)) (constantI S_ 32 0#32)))

/-- The table of experts, as the host computes it. -/
theorem V_v24 (c : Dev nD) : V m c main_v24 = Host.gather gather_S60_S60x1_S60_n_0_n_n_0_1_1
    (Host.sort2 S60 0 comparator_i1_i32_d0 (cmpi .sle (gsOf m c) (broadcastInDim S60 ![] bcast_S_S60 (constantI S_ 32 0#32))) (iotaInDim S60 32 0)).2
    (broadcastInDim S60x1 ![0] bcast_S60_S60x1_0 (
      let n := Host.reduce IntOp.addi (extui 32 (cmpi .sgt (gsOf m c) (broadcastInDim S60 ![] bcast_S_S60 (constantI S_ 32 0#32))) natLt_1_32)
        (constantI S_ 32 0#32) reducesTo_S60_S_d0 h_S_
      select (cmpi .slt (placesT n) (broadcastInDim S60 ![] bcast_S_S60 (constantI S_ 32 0#32)))
        (addi (placesT n) (broadcastInDim S60 ![] bcast_S_S60 (constantI S_ 32 60#32))) (placesT n))) := by
  unfold V hostOps
  simp only [List.flatten_cons, List.flatten_nil, List.append_nil, List.cons_append, List.nil_append]
  after_results
  rfl

end Reads

/-- A scalar spread over sixty places, read at a place. -/
theorem bcast_at (i : Fin 60) (v : IVec S_ 32) : broadcastInDim S60 ![] bcast_S_S60 v (ix1 i) = v ix0 :=
  broadcastInDim_apply _ bcast_S_S60 _ _ ix0 fun e => e.elim0

/-- The place read by grid point `i`. -/
theorem placesT_at (n : IVec S_ 32) (i : Fin 60) :
    placesT n (ix1 i) = IntOp.minsi (BitVec.ofNat 32 i.val) (IntOp.maxsi (n ix0 - 1#32) 0#32) := by
  have h : ∀ a b : IVec S60 32, minsi a b (ix1 i) = IntOp.minsi (a (ix1 i)) (b (ix1 i)) := fun _ _ => rfl
  unfold placesT
  rw [h, bcast_at, iota1_ap]
  rfl

/-- Under small group sizes the tables hold what the group sizes determine. -/
theorem tables (c : Dev nD) (hs : HostFacts.Small (gsOf m c)) :
    HostFacts.Tables (gsOf m c) (V m c main_v24) (V m c main_v5) (V m c main_v31) where
  used := by
    rw [V_v31]
    have e1 : ∀ n : IVec S_ 32, shapeCast S1 n shapeCasts_S_S1 (ix1 0) = n ix0 := fun n => congrArg n (eq_ix0 _)
    rw [e1]
    exact HostFacts.used_word hs (cmpi .sgt (gsOf m c) (broadcastInDim S60 ![] bcast_S_S60 (constantI S_ 32 0#32))) (fun _ => rfl) _ _ _
  off k := by
    rw [V_v5]
    exact HostFacts.off_word _ _ rfl _ (fun e => HostFacts.cumsum_word (gs := gsOf m c) _ _ _ rfl e) k
  expert i := by
    have hn := HostFacts.used_word hs (cmpi .sgt (gsOf m c) (broadcastInDim S60 ![] bcast_S_S60 (constantI S_ 32 0#32))) (fun _ => rfl) natLt_1_32 reducesTo_S60_S_d0 h_S_
    rw [V_v24]
    refine (gather_take1 _ rfl rfl rfl rfl _ _ i ⟨HostFacts.place (gsOf m c) i.val, HostFacts.place_lt i.isLt⟩ ?_ (by decide)).trans
      (HostFacts.ord_word hs _ (fun _ _ => rfl) _ (fun _ => rfl) _)
    refine Eq.trans ?_ (HostFacts.placeW_word i)
    rw [← hn]
    generalize Host.reduce IntOp.addi _ _ _ _ = n
    refine (broadcastInDim_apply _ bcast_S60_S60x1_0 _ _ (ix1 i) fun e => ?_).trans ?_
    · match e with
      | ⟨0, _⟩ => rfl
    have e0 := bcast_at i
    have ep := placesT_at n i
    unfold HostFacts.placeW
    show Scalar.select (IntOp.cmpi .slt (placesT n (ix1 i)) (broadcastInDim S60 ![] bcast_S_S60 (constantI S_ 32 0#32) (ix1 i)))
      (placesT n (ix1 i) + broadcastInDim S60 ![] bcast_S_S60 (constantI S_ 32 60#32) (ix1 i)) (placesT n (ix1 i)) = _
    rw [ep, e0, e0]
    rfl

end Cert.Proof.KernelIdeal

end
-- ==== Proof.KernelIdealPoints.lean ====
/- The words the idealized kernel's body reads from its tables at a grid point, and the pipeline's side condition of the tables. -/
module

public import proofs.«01_k».proof.Proof.Gen.KernelIdeal.Launch
public import proofs.«01_k».proof.Proof.Gen.KernelIdeal.Skeleton
public import proofs.«01_k».proof.Proof.KernelIdealTables
public import proofs.«01_k».proof.Proof.KernelWords
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Routing
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one place of a rectangle of one element along one axis. -/
theorem point_eq {N : ℕ} (off : Fin 1 → ℕ) (inb : ∀ a, off a + S1.size a ≤ (shape1 N).size a)
    (h1 : (Rect.unit (s := shape1 N) off S1.size inb).shape.numel = 1) (k : Fin N) (hk : off 0 = k.val) :
    (Rect.unit (s := shape1 N) off S1.size inb).point h1 = ix1 k := by
  funext a
  match a with
  | ⟨0, _⟩ =>
    apply Fin.ext
    refine (Rect.emb_apply _ _ _).trans ?_
    have h0 : ∀ x : Fin 1, off 0 + 1 * x.val = k.val := fun x => by omega
    exact h0 _

/-- A grid coordinate is below 60. -/
theorem coord_lt (i : grid0.Coords) : (i 0).val < 60 := (i 0).isLt

/-- The index maps of the windows read the table of groups at the grid point. -/
theorem off1_eq (i : grid0.Coords) : k0_off1 i 0 = (i 0).val := by
  have := coord_lt i
  unfold k0_off1
  show (BitVec.ofNat 32 (i 0).val).toNat = _
  exact WordCmp.toNat_ofNat_of_lt (by omega)

/-- The body reads the table of groups at the grid point. -/
theorem off2_eq (i : grid0.Coords) : k0_off2 i 0 = (i 0).val := off1_eq i

variable {gs : HostFacts.Sizes} {pf : pre0.Contents (Elt F)}

/-- The expert grid point `i` visits, as an index. -/
abbrev expAt (gs : HostFacts.Sizes) (i : grid0.Coords) : Fin 60 := HostFacts.expert gs ⟨(i 0).val, coord_lt i⟩

/-- The word of the expert read at grid point `i` by the windows. -/
theorem at_off1 (h : HostFacts.Tables gs (pf 0) (pf 1) (pf 2)) (i : grid0.Coords) (hinb) (h1) :
    pf.at 0 (Rect.unit (s := S60) ![(Scalar.indexCast (BitVec.ofNat 32 (i 0).val)).toNat] S1.size hinb) h1 = BitVec.ofNat 32 (expAt gs i).val :=
  (congrArg (pf 0) (point_eq _ hinb h1 ⟨(i 0).val, coord_lt i⟩ (off1_eq i))).trans (h.expert _)

/-- The block of codes at a point is that of the visited group. -/
theorem map_1 (h : HostFacts.Tables gs (pf 0) (pf 1) (pf 2)) (i : grid0.Coords) :
    cc0_transform_1 k0_off1_inb numel1_S1 pf i = ![(expAt gs i).val, 0, 0, 0] := by
  have he := (expAt gs i).isLt
  unfold cc0_transform_1
  exact congrArg (fun n : ℕ => ![n, 0, 0, 0]) ((congrArg BitVec.toNat (at_off1 h i (k0_off1_inb i) numel1_S1)).trans (WordCmp.toNat_ofNat_of_lt (by omega)))

/-- The block of codebook words at a point is that of the visited group. -/
theorem map_2 (h : HostFacts.Tables gs (pf 0) (pf 1) (pf 2)) (i : grid0.Coords) :
    cc0_transform_2 k0_off1_inb numel1_S1 pf i = ![(expAt gs i).val, 0, 0] := by
  have he := (expAt gs i).isLt
  unfold cc0_transform_2
  exact congrArg (fun n : ℕ => ![n, 0, 0]) ((congrArg BitVec.toNat (at_off1 h i (k0_off1_inb i) numel1_S1)).trans (WordCmp.toNat_ofNat_of_lt (by omega)))

/-- The block of scales at a point is that of the visited group. -/
theorem map_3 (h : HostFacts.Tables gs (pf 0) (pf 1) (pf 2)) (i : grid0.Coords) :
    cc0_transform_3 k0_off1_inb numel1_S1 pf i = ![(expAt gs i).val, 0, 0] := by
  have he := (expAt gs i).isLt
  unfold cc0_transform_3
  exact congrArg (fun n : ℕ => ![n, 0, 0]) ((congrArg BitVec.toNat (at_off1 h i (k0_off1_inb i) numel1_S1)).trans (WordCmp.toNat_ofNat_of_lt (by omega)))

/-- The blocks that the tables pick lie inside their arrays. -/
theorem ok_of (h : HostFacts.Tables gs (pf 0) (pf 1) (pf 2)) : ok0 pf := by
  unfold ok0
  refine ⟨fun i => ?_, fun i => ?_, fun i => ?_⟩
  · have he := (expAt gs i).isLt
    refine ⟨fun a => ?_, Or.inr (Or.inr ⟨by decide, rfl, ?_, rfl⟩)⟩
    · rw [map_1 h]
      match a with
      | ⟨0, _⟩ => show ((expAt gs i).val + 1) * 1 ≤ 60; omega
      | ⟨1, _⟩ => show (0 + 1) * 2 ≤ 2; omega
      | ⟨2, _⟩ => show (0 + 1) * 1408 ≤ 1408; omega
      | ⟨3, _⟩ => show (0 + 1) * 256 ≤ 256; omega
    · show cc0_transform_1 k0_off1_inb numel1_S1 pf i 2 * 1408 = 0
      rw [map_1 h]; rfl
  · have he := (expAt gs i).isLt
    refine ⟨fun a => ?_, Or.inl rfl⟩
    rw [map_2 h]
    match a with
    | ⟨0, _⟩ => show ((expAt gs i).val + 1) * 1 ≤ 60; omega
    | ⟨1, _⟩ => show (0 + 1) * 16 ≤ 16; omega
    | ⟨2, _⟩ => show (0 + 1) * 128 ≤ 128; omega
  · have he := (expAt gs i).isLt
    refine ⟨fun a => ?_, Or.inl rfl⟩
    rw [map_3 h]
    match a with
    | ⟨0, _⟩ => show ((expAt gs i).val + 1) * 1 ≤ 60; omega
    | ⟨1, _⟩ => show (0 + 1) * 1 ≤ 1; omega
    | ⟨2, _⟩ => show (0 + 1) * 1408 ≤ 1408; omega

/-- The visit's guard: the point lies below the number of groups with rows. -/
theorem cond2_iff (h : HostFacts.Tables gs (pf 0) (pf 1) (pf 2)) (i : grid0.Coords) (v3 : BitVec 32) (h3 : v3 = BitVec.ofNat 32 (HostFacts.used gs)) :
    k0_cond2 i v3 = 1#1 ↔ (i 0).val < HostFacts.used gs := by
  have hu := HostFacts.used_le (gs := gs)
  have hi := coord_lt i
  have e1 : (BitVec.ofNat 32 (i 0).val).toInt = ((i 0).val : ℤ) := WordCmp.toInt_ofNat_of_lt (w := 32) (by omega)
  have e2 : (BitVec.ofNat 32 (HostFacts.used gs)).toInt = (HostFacts.used gs : ℤ) := WordCmp.toInt_ofNat_of_lt (w := 32) (by omega)
  subst h3
  unfold k0_cond2
  show IntOp.cmpi .ne ((IntOp.cmpi .slt (BitVec.ofNat 32 (i 0).val) (BitVec.ofNat 32 (HostFacts.used gs))).setWidth 32) 0#32 = 1#1 ↔ _
  rw [WordCmp.cmpi_slt_eq, e1, e2]
  by_cases hlt : (i 0).val < HostFacts.used gs
  · rw [decide_eq_true (by omega)]; exact ⟨fun _ => hlt, fun _ => by decide⟩
  · rw [decide_eq_false (by omega)]; exact ⟨fun hh => absurd hh (by decide), fun hh => absurd hh hlt⟩

/-- The output is cleared at the first grid point. -/
theorem cond1_iff (i : grid0.Coords) : k0_cond1 i = 1#1 ↔ (i 0).val = 0 := by
  have hi := coord_lt i
  unfold k0_cond1
  generalize (i 0).val = k at *
  interval_cases k <;> decide

/-- The start of the visited group is read at the number of the group. -/
theorem off3_eq {v8 : BitVec 32} {e : ℕ} (h8 : v8 = BitVec.ofNat 32 e) (he : e < 60) : k0_off3 v8 0 = e := by
  subst h8
  show (BitVec.ofNat 32 e).toNat = e
  exact WordCmp.toNat_ofNat_of_lt (by omega)

/-- The end of the visited group is read at the number after that of the group. -/
theorem off4_eq {v8 : BitVec 32} {e : ℕ} (h8 : v8 = BitVec.ofNat 32 e) (he : e < 60) : k0_off4 v8 0 = e + 1 := by
  subst h8
  show (BitVec.ofNat 32 e + 1#32).toNat = e + 1
  rw [show BitVec.ofNat 32 e + 1#32 = BitVec.ofNat 32 (e + 1) from (BitVec.ofNat_add ..).symm]
  exact WordCmp.toNat_ofNat_of_lt (by omega)

/-- The word read at one place of the first table. -/
theorem read_tb0 (c : Dev nD) (x : TbBuf0 (F := F) c tbM0_0) (off : Fin 1 → ℕ) (inb) (h1) (k : Fin 60) (hk : off 0 = k.val) :
    View.readAt (Elt F) tbM0_0.view (Rect.unit (s := S60) off S1.size inb).toLoadRect x (Shape.Idx.first h1) = x (ix1 k) := by
  show x _ = x _
  refine congrArg x ?_
  funext a
  match a with
  | ⟨0, _⟩ => exact Fin.ext (show off 0 + 1 * 0 = k.val by omega)

/-- The word read at one place of the second table. -/
theorem read_tb1 (c : Dev nD) (x : TbBuf0 (F := F) c tbM0_1) (off : Fin 1 → ℕ) (inb) (h1) (k : Fin 61) (hk : off 0 = k.val) :
    View.readAt (Elt F) tbM0_1.view (Rect.unit (s := S61) off S1.size inb).toLoadRect x (Shape.Idx.first h1) = x (ix1 k) := by
  show x _ = x _
  refine congrArg x ?_
  funext a
  match a with
  | ⟨0, _⟩ => exact Fin.ext (show off 0 + 1 * 0 = k.val by omega)

/-- The word read at the third table's only place. -/
theorem read_tb2 (c : Dev nD) (x : TbBuf0 (F := F) c tbM0_2) (off : Fin 1 → ℕ) (inb) (h1) (k : Fin 1) (hk : off 0 = k.val) :
    View.readAt (Elt F) tbM0_2.view (Rect.unit (s := S1) off S1.size inb).toLoadRect x (Shape.Idx.first h1) = x (ix1 k) := by
  show x _ = x _
  refine congrArg x ?_
  funext a
  match a with
  | ⟨0, _⟩ => exact Fin.ext (show off 0 + 1 * 0 = k.val by omega)

end Cert.Proof.KernelIdeal

end
-- ==== Proof.KernelIdealLoops.lean ====
/- The tile loop of the kernel, as a frame needs it: one trip decodes a weight tile into the scratch and runs the
   chunks of rows over it; the inputs stay as they were, the output and the scratch hold something. -/
module

public import proofs.«01_k».proof.Proof.Gen.KernelIdeal.Loops

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option maxHeartbeats 40000000 in
/-- The tile loop by its invariant: before every trip the four inputs are held at their contents, the output and the
    scratch at some contents. -/
@[sl_loop] def loopInv_k0_t1 (E : Set ℕ) (c : Dev nD) (i : grid0.Coords) (arg1 : Memref sig .tc .smem S60 .i32) (harg1 : arg1.IsWhole) (arg2 : Memref sig .tc .smem S61 .i32) (harg2 : arg2.IsWhole) (arg3 : Memref sig .tc .smem S1 .i32) (harg3 : arg3.IsWhole) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole) (v3 : Elt F .i32) (k0_h2 : k0_cond2 i v3 = 1#1) (v10 : Elt F .i32) (v13 : Elt F .i32) (k0_hw2 : k0_chk2 i v3 v10 v13) (v31 : BitVec 32) (v35 : BitVec 32) (v46 : BitVec 1) (v47 : BitVec 32) (c0_i32_15 : BitVec 32) (X4 : BufTy.Contents (Elt F) arg4.view.ty) (X5 : BufTy.Contents (Elt F) arg5.view.ty) (X6 : BufTy.Contents (Elt F) arg6.view.ty) (X7 : BufTy.Contents (Elt F) arg7.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 v3 k0_h2 v10 v13 k0_hw2 v31 v35 v46 v47 c0_i32_15 where
  inv := fun _ _ => iprop((arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (∃ f, (arg8.view.loc (c : Thread nD τ) ↦[arg8.view.set]{fullShare} f))
    ∗ (∃ f, (arg9.view.loc (c : Thread nD τ) ↦[arg9.view.set]{fullShare} f)))
  step := fun k acc => by
    unfold k0_t1_body
    iintro ⟨H4, H5, H6, H7, ⟨%f8, H8⟩, ⟨%f9, H9⟩⟩
    sl_exec_parts
    sl_step
    isplitl [H4]; · iexact H4
    isplitl [H5]; · iexact H5
    isplitl [H6]; · iexact H6
    isplitl [H7]; · iexact H7
    isplitl [H8]; · iexists _; iexact H8
    iexists _; iexact H9

end Cert.Proof.KernelIdeal

end
-- ==== Proof.KernelIdealRun.lean ====
module

public import proofs.«01_k».proof.Proof.Gen.KernelIdeal.Launch
public import proofs.«01_k».proof.Proof.Gen.KernelIdeal.Skeleton
public import proofs.«01_k».proof.Proof.KernelIdealPoints
public import proofs.«01_k».proof.Proof.KernelIdealLoops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Routing
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first grid point, when it visits a group: it gives the inputs and the tables back as they were, the output and the scratch at
    some contents. -/
theorem visitFirst {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec F S1536x2048 .bf16) (x1 : Vec F S1x2x1408x256 .i8) (x2 : Vec F S1x16x128 .i32) (x3 : Vec F S1x1x1408 .f32) (xt0 : TbBuf0 (F := F) c tbM0_0) (xt1 : TbBuf0 (F := F) c tbM0_1) (xt2 : TbBuf0 (F := F) c tbM0_2)
    (hT : HostFacts.Tables gs xt0 xt1 xt2) (h1 : k0_cond1 i = 1#1) (h2 : k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : visitFirst.sl.r c xt2 = BitVec.ofNat 32 (HostFacts.used gs) := by
      unfold visitFirst.sl.r
      exact (read_tb2 c xt2 ![0] _ _ 0 rfl).trans hT.used
    have h2' := h2
    rw [← hr] at h2'
    sl_exec_parts
    obtain ⟨e, hE⟩ : ∃ e : Fin 60, e = expAt gs i := ⟨_, rfl⟩
    have he := e.isLt
    have hr2 : visitFirst.sl.r_2 c i xt0 = BitVec.ofNat 32 e.val := by
      unfold visitFirst.sl.r_2
      rw [hE]
      exact (read_tb0 c xt0 _ _ _ ⟨(i 0).val, coord_lt i⟩ (off2_eq i)).trans (hT.expert _)
    have hc1 : k0_chk1 i (visitFirst.sl.r c xt2) (visitFirst.sl.r_2 c i xt0) := chk1_of hr2 he
    sl_exec
    have hr3 : visitFirst.sl.r_3 c i xt0 xt1 xt2 h2' hc1 = BitVec.ofNat 32 (HostFacts.off gs e.val) := by
      unfold visitFirst.sl.r_3
      exact (read_tb1 c xt1 _ _ _ ⟨e.val, by omega⟩ (off3_eq hr2 he)).trans (hT.off ⟨e.val, by omega⟩)
    have hr4 : visitFirst.sl.r_4 c i xt0 xt1 xt2 h2' hc1 = BitVec.ofNat 32 (HostFacts.off gs (e.val + 1)) := by
      unfold visitFirst.sl.r_4
      exact (read_tb1 c xt1 _ _ _ ⟨e.val + 1, by omega⟩ (off4_eq hr2 he)).trans (hT.off ⟨e.val + 1, by omega⟩)
    have hlo := HostFacts.off_mono (gs := gs) (Nat.le_succ e.val)
    have hhi := HostFacts.off_le hs (e.val + 1)
    have hc2 : k0_chk2 i (visitFirst.sl.r c xt2) (visitFirst.sl.r_3 c i xt0 xt1 xt2 h2' hc1) (visitFirst.sl.r_4 c i xt0 xt1 xt2 h2' hc1) :=
      chk2_of hr3 hr4 hlo (by omega)
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _, _; isplitr; swap; · iexact HS0
      ipureintro; rfl
    isplitl [HT0]; · iexact HT0
    isplitl [HT1]; · iexact HT1
    iexact HT2

set_option maxHeartbeats 1000000 in
/-- The body at a later grid point that visits a group: it gives the inputs and the tables back as they were, the output and the scratch at
    some contents. -/
theorem visitLater {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec F S1536x2048 .bf16) (x1 : Vec F S1x2x1408x256 .i8) (x2 : Vec F S1x16x128 .i32) (x3 : Vec F S1x1x1408 .f32) (xt0 : TbBuf0 (F := F) c tbM0_0) (xt1 : TbBuf0 (F := F) c tbM0_1) (xt2 : TbBuf0 (F := F) c tbM0_2)
    (hT : HostFacts.Tables gs xt0 xt1 xt2) (h1 : ¬ k0_cond1 i = 1#1) (h2 : k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : visitLater.sl.r c xt2 = BitVec.ofNat 32 (HostFacts.used gs) := by
      unfold visitLater.sl.r
      exact (read_tb2 c xt2 ![0] _ _ 0 rfl).trans hT.used
    have h2' := h2
    rw [← hr] at h2'
    sl_exec_parts
    obtain ⟨e, hE⟩ : ∃ e : Fin 60, e = expAt gs i := ⟨_, rfl⟩
    have he := e.isLt
    have hr2 : visitLater.sl.r_2 c i xt0 = BitVec.ofNat 32 e.val := by
      unfold visitLater.sl.r_2
      rw [hE]
      exact (read_tb0 c xt0 _ _ _ ⟨(i 0).val, coord_lt i⟩ (off2_eq i)).trans (hT.expert _)
    have hc1 : k0_chk1 i (visitLater.sl.r c xt2) (visitLater.sl.r_2 c i xt0) := chk1_of hr2 he
    sl_exec
    have hr3 : visitLater.sl.r_3 c i xt0 xt1 xt2 h2' hc1 = BitVec.ofNat 32 (HostFacts.off gs e.val) := by
      unfold visitLater.sl.r_3
      exact (read_tb1 c xt1 _ _ _ ⟨e.val, by omega⟩ (off3_eq hr2 he)).trans (hT.off ⟨e.val, by omega⟩)
    have hr4 : visitLater.sl.r_4 c i xt0 xt1 xt2 h2' hc1 = BitVec.ofNat 32 (HostFacts.off gs (e.val + 1)) := by
      unfold visitLater.sl.r_4
      exact (read_tb1 c xt1 _ _ _ ⟨e.val + 1, by omega⟩ (off4_eq hr2 he)).trans (hT.off ⟨e.val + 1, by omega⟩)
    have hlo := HostFacts.off_mono (gs := gs) (Nat.le_succ e.val)
    have hhi := HostFacts.off_le hs (e.val + 1)
    have hc2 : k0_chk2 i (visitLater.sl.r c xt2) (visitLater.sl.r_3 c i xt0 xt1 xt2 h2' hc1) (visitLater.sl.r_4 c i xt0 xt1 xt2 h2' hc1) :=
      chk2_of hr3 hr4 hlo (by omega)
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _, _; isplitr; swap; · iexact HS0
      ipureintro; rfl
    isplitl [HT0]; · iexact HT0
    isplitl [HT1]; · iexact HT1
    iexact HT2

set_option maxHeartbeats 1000000 in
/-- The body at the first grid point, when no group has rows: it gives the inputs and the tables back as they were, the output and the scratch at
    some contents. -/
theorem idleFirst {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec F S1536x2048 .bf16) (x1 : Vec F S1x2x1408x256 .i8) (x2 : Vec F S1x16x128 .i32) (x3 : Vec F S1x1x1408 .f32) (xt0 : TbBuf0 (F := F) c tbM0_0) (xt1 : TbBuf0 (F := F) c tbM0_1) (xt2 : TbBuf0 (F := F) c tbM0_2)
    (hT : HostFacts.Tables gs xt0 xt1 xt2) (h1 : k0_cond1 i = 1#1) (h2 : ¬ k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : idleFirst.sl.r c xt2 = BitVec.ofNat 32 (HostFacts.used gs) := by
      unfold idleFirst.sl.r
      exact (read_tb2 c xt2 ![0] _ _ 0 rfl).trans hT.used
    have h2' := h2
    rw [← hr] at h2'
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _, _; isplitr; swap; · iexact HS0
      ipureintro; rfl
    isplitl [HT0]; · iexact HT0
    isplitl [HT1]; · iexact HT1
    iexact HT2

set_option maxHeartbeats 1000000 in
/-- The body at a later grid point that visits no group: it gives the inputs and the tables back as they were, the output and the scratch at
    some contents. -/
theorem idleLater {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec F S1536x2048 .bf16) (x1 : Vec F S1x2x1408x256 .i8) (x2 : Vec F S1x16x128 .i32) (x3 : Vec F S1x1x1408 .f32) (xt0 : TbBuf0 (F := F) c tbM0_0) (xt1 : TbBuf0 (F := F) c tbM0_1) (xt2 : TbBuf0 (F := F) c tbM0_2)
    (hT : HostFacts.Tables gs xt0 xt1 xt2) (h1 : ¬ k0_cond1 i = 1#1) (h2 : ¬ k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := F)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : idleLater.sl.r c xt2 = BitVec.ofNat 32 (HostFacts.used gs) := by
      unfold idleLater.sl.r
      exact (read_tb2 c xt2 ![0] _ _ 0 rfl).trans hT.used
    have h2' := h2
    rw [← hr] at h2'
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _, _; isplitr; swap; · iexact H4
      ipureintro; rfl
    isplitl [HS0]
    · iexists _, _; isplitr; swap; · iexact HS0
      ipureintro; rfl
    isplitl [HT0]; · iexact HT0
    isplitl [HT1]; · iexact HT1
    iexact HT2

end Cert.Proof.KernelIdeal

end
-- ==== Proof.KernelIdealFrame.lean ====
module

public import proofs.«01_k».proof.Proof.Gen.KernelIdeal.Launch
public import proofs.«01_k».proof.Proof.Gen.KernelIdeal.Skeleton
public import proofs.«01_k».proof.Proof.KernelIdealRun
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Idealize.ShloMosaic.Routing
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tables' side condition of the pipeline, when every group size is at most 1536. -/
theorem okM (hs : HostFacts.Small (gsOf m 0)) : Ok m := ok_of (tables m 0 hs)

/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- After a point, the buffer of window 1 holds what the proof data say. -/
theorem after0_1 (hO : Ok m) (c : Dev nD) (t : Fin (cfgM m hO).N) : (dats m hO 0 c).after 1 t = iblk m hO c 1 t := by dsimp only [dats]; try rfl
/-- After a point, the buffer of window 2 holds what the proof data say. -/
theorem after0_2 (hO : Ok m) (c : Dev nD) (t : Fin (cfgM m hO).N) : (dats m hO 0 c).after 2 t = iblk m hO c 2 t := by dsimp only [dats]; try rfl
/-- After a point, the buffer of window 3 holds what the proof data say. -/
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before a point, the buffer of window 1 holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before a point, the buffer of window 2 holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Before a point, the buffer of window 3 holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ (∃ d, owns (c : Thread nD τ) (ms0_4 m hO t) fullShare d))

/-- The body at any point: the inputs' memrefs hold their blocks (`before0_W`); so the
    run applies; the invariant hands the body its scratch buffers at some contents (and the generator register) and takes them back at some contents (`PhiA_eq`); the core owes nothing throughout. -/
theorem sound_body (hO : Ok m) (hs : HostFacts.Small (gsOf m 0)) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq, PhiA0_eq]
  iintro ⟨⟨⟨HS0, Hg⟩, ⟨HT0, HT1, HT2⟩⟩, Ho, ⟨%d0, H0⟩, ⟨%d1, H1⟩, ⟨%d2, H2⟩, ⟨%d3, H3⟩, ⟨%d4, H4⟩⟩
  by_cases h1 : k0_cond1 (grid0.coords t) = 1#1 <;> by_cases h2 : k0_cond2 (grid0.coords t) (BitVec.ofNat 32 (HostFacts.used (gsOf m 0))) = 1#1
  · iapply (visitFirst hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · iapply (idleFirst hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · iapply (visitLater hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4
  · iapply (idleLater hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hs : HostFacts.Small (gsOf m 0)) (c : Dev nD) : BodyObligation (dats (F := F) m hO 0 c) (defs₀ (F := F)) Variants.none () Set.univ forgets0 := fun t => by
  rw [bigSep_W0, bigSep_W0, defs₀_row m hO]
  exact triple_restated (sound_body m hO hs c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hs : HostFacts.Small (gsOf m 0)) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hs c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main (hO : Ok m) (hs : HostFacts.Small (gsOf m 0)) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hs)

/-- `frame` without the counters: the argument arrays end unchanged. -/
theorem unchanged (hO : Ok m) (hs : HostFacts.Small (gsOf m 0)) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO hs)

/-- Every run ends with the arguments unchanged and every semaphore at zero, when every group size is at most 1536. -/
theorem frame (hO : Ok m) (hs : HostFacts.Small (gsOf m 0)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hs) ((θ_run defs _ _).mono (fun _ h => h.2) (run_main_quiescent m ρ hO hs))

end Cert.Proof.KernelIdeal

end
-- ==== Proof.Precondition.lean ====
/- What the precondition says of the group sizes: each is at least zero and at most 1536. -/
module

public import proofs.«01_k».proof.Pre_sizes_are_row_counts
public import proofs.«01_k».proof.Proof.Gen.Pre_sizes_are_row_counts
public import proofs.«01_k».proof.Proof.HostFacts
public import Idealize.ShloMosaic.Lib.WordCmp

@[expose] public section

noncomputable section

namespace Cert.Proof.HostFacts

open Idealize.ShloMosaic Idealize.ShloMosaic.ValueIdx Cert.Pre_sizes_are_row_counts

/-- A word between 0 and 1536, as signed numbers, is at most 1536 as a natural number. -/
theorem word_small (x : BitVec 32) (h : IntOp.andi (IntOp.cmpi .sge x 0#32) (IntOp.cmpi .sle x 1536#32) = 1#1) :
    x.toNat ≤ 1536 := by
  rw [WordCmp.cmpi_sge_eq, WordCmp.cmpi_sle_eq] at h
  have e0 : (0#32 : BitVec 32).toInt = 0 := by decide
  have e1 : (1536#32 : BitVec 32).toInt = 1536 := by decide
  rw [e0, e1] at h
  by_cases h0 : (0 : ℤ) ≤ x.toInt <;> by_cases h1 : x.toInt ≤ (1536 : ℤ)
  · have := BitVec.toInt_eq_toNat_cond x
    have := x.isLt
    omega
  all_goals
    simp only [h0, h1, decide_true, decide_false] at h
    exact absurd h (by decide)

/-- The precondition bounds every group size by 1536. -/
theorem small_of_pre {F : FTy → Type} [FloatOps F] (a0 : FVec F S1536x2048 .bf16) (gs : IVec S60 32)
    (a2 : IVec S60x2x1408x256 8) (a3 : IVec S60x2x256x8 16) (a4 : FVec F S60x1408 .f32)
    (h : Cert.Pre_sizes_are_row_counts.fn (F := F) a0 gs a2 a3 a4 = fun _ => 1#1) : Small gs :=
  fun k => word_small _ (congrFun h (ix1 k))

end Cert.Proof.HostFacts

end
-- ==== Proof.DecodeDefs.lean ====
module

public import proofs.«01_k».proof.Proof.Gen.KernelIdeal.Skeleton

@[expose] public section

noncomputable section

/-! The decoding of one weight tile, written once for every block of it: what the kernel stores in its scratch for the
    block of 16 output rows and 128 groups, for each of the eight elements of a group. The kernel's own text repeats
    this for 4 row blocks, 2 halves of the groups, 2 halves of a row block, 4 element pairs and 2 elements of a pair. -/

namespace Cert.Proof.Decode

open Cert.KernelIdeal Cert.KernelIdeal.Gen
open Idealize.ShloMosaic Idealize.ShloMosaic.TcCoe

variable {F : FTy → Type} [FloatOps F]

/-- The table index each lane takes from the word `w`: seven bits from the bit `sh` on. -/
def idxOf (w : IVec S8x128 32) (sh : BitVec 32) : IVec S8x128 32 :=
  andi (shrsi w (broadcast S8x128 sh)) (broadcast S8x128 127#32)

/-- Whether the byte `b` of each word has its top bit set. -/
def hiOf (w : IVec S8x128 32) : ℕ → IVec S8x128 1
  | 0 => cmpi .ne (andi w (broadcast S8x128 128#32)) (broadcast S8x128 0#32)
  | 1 => cmpi .ne (andi w (broadcast S8x128 32768#32)) (broadcast S8x128 0#32)
  | 2 => cmpi .ne (andi w (broadcast S8x128 8388608#32)) (broadcast S8x128 0#32)
  | _ => cmpi .slt w (broadcast S8x128 0#32)

/-- The words looked up in a table of 256 entries held as two rows of 128, by index and top bit. -/
def lookWords (idx : IVec S8x128 32) (hi : IVec S8x128 1) (t0 t1 : IVec S8x128 32) : IVec S8x128 32 :=
  select hi
    (dynamicGather 1 t1 (shapeCast S8x128 (shapeCast S8x128x1 idx shapeCasts_S8x128_S8x128x1) shapeCasts_S8x128x1_S8x128))
    (dynamicGather 1 t0 (shapeCast S8x128 (shapeCast S8x128x1 idx shapeCasts_S8x128_S8x128x1) shapeCasts_S8x128x1_S8x128))

/-- The same words read as pairs of bf16 rows. -/
def look (idx : IVec S8x128 32) (hi : IVec S8x128 1) (t0 t1 : IVec S8x128 32) : FVec F S16x128 .bf16 :=
  bitcastToFloat .bf16 (bitcast S16x128 16 (lookWords idx hi t0 t1) bitcasts_S8x128_w32_S16x128_w16)

/-- The two codebooks' contributions for the byte `b` of the code words and the element pair `p`, added. -/
def acc (T : Fin 2 → Fin 4 → Fin 2 → IVec S8x128 32) (W : Fin 2 → IVec S8x128 32) (b : ℕ) (p : Fin 4) : FVec F S16x128 .bf16 :=
  addf (look (idxOf (W 0) (BitVec.ofNat 32 (8 * b))) (hiOf (W 0) b) (T 0 p 0) (T 0 p 1))
    (look (idxOf (W 1) (BitVec.ofNat 32 (8 * b))) (hiOf (W 1) b) (T 1 p 0) (T 1 p 1))

/-- The block stored for the half `h` of a row block, the element pair `p` and the element `par` of it. -/
def block (T : Fin 2 → Fin 4 → Fin 2 → IVec S8x128 32) (W : Fin 2 → IVec S8x128 32) (h : Fin 2) (p : Fin 4) (par : Fin 2) :
    FVec F S16x128 .bf16 :=
  shapeCast S16x128 (interleaveRows S16x128
    (rowsOfParity par S8x128 (acc T W (2 * h.val) p) bitcasts_S16x128_w16_S8x128_w32)
    (rowsOfParity par S8x128 (acc T W (2 * h.val + 1) p) bitcasts_S16x128_w16_S8x128_w32)
    bitcasts_S16x128_w16_S8x128_w32) shapeCasts_S16x128_S16x128

/-- Every block lies inside the scratch. -/
theorem block_inb : ∀ (rb : Fin 4) (kh h : Fin 2) (p : Fin 4) (par : Fin 2), ∀ a,
    (![32 * rb.val + 16 * h.val, (2 * p.val + par.val) * 256 + 128 * kh.val] : Fin 2 → ℕ) a + S16x128.size a ≤ S128x2048.size a := by
  decide +kernel

/-- One store of the decoded tile: where, and what. -/
def piece (T : Fin 2 → Fin 4 → Fin 2 → IVec S8x128 32) (W : Fin 4 → Fin 2 → Fin 2 → IVec S8x128 32)
    (rb : Fin 4) (kh h : Fin 2) (p : Fin 4) (par : Fin 2) : View.Piece (Elt F) S128x2048 .bf16 :=
  ⟨Rect.unit (s := S128x2048) ![32 * rb.val + 16 * h.val, (2 * p.val + par.val) * 256 + 128 * kh.val] S16x128.size
    (block_inb rb kh h p par), block T (W rb kh) h p par⟩

/-- All the stores of the decoded tile, the latest first. -/
def pieces (T : Fin 2 → Fin 4 → Fin 2 → IVec S8x128 32) (W : Fin 4 → Fin 2 → Fin 2 → IVec S8x128 32) :
    List (View.Piece (Elt F) S128x2048 .bf16) :=
  [3, 2, 1, 0].flatMap fun rb => [1, 0].flatMap fun kh => [1, 0].flatMap fun h => [3, 2, 1, 0].flatMap fun p =>
    [1, 0].map fun par => piece T W rb kh h p par

/-- The rows of the codebook table as the kernel loads them. -/
theorem row_inb : ∀ (cb : Fin 2) (p : Fin 4) (h : Fin 2), ∀ a,
    (![0, (cb.val * 4 + p.val) * 2 + h.val, 0] : Fin 3 → ℕ) a + S1x1x128.size a ≤ S1x16x128.size a := by
  decide +kernel

/-- The table row of codebook `cb`, pair `p`, half `h`, repeated on 8 sublanes. -/
def tableRows (arg6 : Memref sig .tc .vmem S1x16x128 .i32) (X6 : BufTy.Contents (Elt F) arg6.view.ty)
    (cb : Fin 2) (p : Fin 4) (h : Fin 2) : IVec S8x128 32 :=
  k0_pay5 (View.readAt (Elt F) arg6.view (Rect.unit (s := S1x16x128) ![0, (cb.val * 4 + p.val) * 2 + h.val, 0] S1x1x128.size
    (row_inb cb p h)).toLoadRect X6)

/-- The code words of row block `rb` and group half `kh`, of the two codebooks. -/
def codeWords (arg5 : Memref sig .tc .vmem S1x2x1408x256 .i8) (X5 : BufTy.Contents (Elt F) arg5.view.ty) (k : Fin k0_t1_loop.trips)
    (rb : Fin 4) : Fin 2 → Fin 2 → IVec S8x128 32
  | 0, 0 => k0_pay21 (View.readAt (Elt F) arg5.view (Rect.unit (s := S1x2x1408x256) (k0_off5 k (BitVec.ofNat 32 (32 * rb.val)))
      S1x1x32x128.size (k0_off5_inb k rb)).toLoadRect X5)
  | 0, 1 => k0_pay21 (View.readAt (Elt F) arg5.view (Rect.unit (s := S1x2x1408x256) (k0_off6 k (BitVec.ofNat 32 (32 * rb.val)))
      S1x1x32x128.size (k0_off6_inb k rb)).toLoadRect X5)
  | 1, 0 => k0_pay21 (View.readAt (Elt F) arg5.view (Rect.unit (s := S1x2x1408x256) (k0_off7 k (BitVec.ofNat 32 (32 * rb.val)))
      S1x1x32x128.size (k0_off7_inb k rb)).toLoadRect X5)
  | 1, 1 => k0_pay21 (View.readAt (Elt F) arg5.view (Rect.unit (s := S1x2x1408x256) (k0_off8 k (BitVec.ofNat 32 (32 * rb.val)))
      S1x1x32x128.size (k0_off8_inb k rb)).toLoadRect X5)

end Cert.Proof.Decode

end
-- ==== Proof.DecodeValue.lean ====
module

public import proofs.«01_k».proof.Proof.DecodeDefs
public import Idealize.ShloMosaic.Lib.Pointwise
public import Idealize.ShloMosaic.Lib.ValueIdx
public import Idealize.ShloMosaic.Lib.Bf16Pair
public import Idealize.ShloMosaic.Lib.BitcastPair
public import Idealize.ShloMosaic.Lib.BitcastFour
public import Idealize.ShloMosaic.PureOps.Ideal

@[expose] public section

noncomputable section

/-! The decoded tile, element by element: the sum over the two codebooks of the entry its code selects. -/

namespace Cert.Proof.Decode

open Cert.KernelIdeal Cert.KernelIdeal.Gen
open Idealize.ShloMosaic Idealize.ShloMosaic.TcCoe

/-- A word shifted right by `n` (at most 25) and masked to seven bits is the seven bits from `n` on. -/
theorem idx_bits (w : BitVec 32) (n : ℕ) (hn : n + 7 ≤ 32) :
    (IntOp.andi (IntOp.shrsi .vector w (BitVec.ofNat 32 n)) 127#32).toNat = w.toNat / 2 ^ n % 128 := by
  have hn' : (BitVec.ofNat 32 n).toNat = n := by rw [BitVec.toNat_ofNat]; exact Nat.mod_eq_of_lt (by omega)
  have hs : IntOp.shrsi .vector w (BitVec.ofNat 32 n) = w.sshiftRight n := by
    unfold IntOp.shrsi
    rw [if_pos (by omega), BitVec.sshiftRight', hn']
  rw [hs]
  show (w.sshiftRight n &&& 127#32).toNat = _
  rw [BitVec.toNat_and, show (127#32 : BitVec 32).toNat = 2 ^ 7 - 1 from rfl, Nat.and_two_pow_sub_one_eq_mod]
  apply Nat.eq_of_testBit_eq
  intro i
  rw [show (128 : ℕ) = 2 ^ 7 from rfl, Nat.testBit_mod_two_pow, Nat.testBit_mod_two_pow, ← Nat.shiftRight_eq_div_pow, Nat.testBit_shiftRight]
  by_cases hi : i < 7
  · simp only [hi, decide_true, Bool.true_and]
    rw [← BitVec.getLsbD, BitVec.getLsbD_sshiftRight, ← BitVec.getLsbD]
    simp [show ¬ 32 ≤ i by omega, show n + i < 32 by omega]
  · simp [hi]

/-- A word masked to one bit is not zero just when the bit is set. -/
theorem ne_bit (w : BitVec 32) (n : ℕ) (hn : n < 32) :
    IntOp.cmpi .ne (w &&& BitVec.twoPow 32 n) 0#32 = if w.getLsbD n then 1#1 else 0#1 := by
  rw [BitVec.and_twoPow]
  unfold IntOp.cmpi
  by_cases h : w.getLsbD n
  · have h0 : BitVec.twoPow 32 n ≠ 0#32 := by
      intro h0
      have := congrArg (fun v => v.getLsbD n) h0
      simp [BitVec.getLsbD_twoPow, hn] at this
    rw [if_pos h, if_pos h]
    show BitVec.ofBool (BitVec.twoPow 32 n != 0#32) = 1#1
    rw [bne_iff_ne.mpr h0]
    rfl
  · simp [h]

/-- Two numbers with the same seven lowest bits are equal modulo 128. -/
theorem mod128_ext (a b : ℕ) (h : ∀ i < 7, a.testBit i = b.testBit i) : a % 128 = b % 128 := by
  apply Nat.eq_of_testBit_eq
  intro i
  rw [show (128 : ℕ) = 2 ^ 7 from rfl, Nat.testBit_mod_two_pow, Nat.testBit_mod_two_pow]
  by_cases hi : i < 7
  · rw [h i hi]
  · simp [hi]

/-- The top bit of byte `b`, as the kernel tests it. -/
theorem hi_bits (w : IVec S8x128 32) (b : ℕ) (hb : b < 4) (i : S8x128.Idx) :
    hiOf w b i = if (w i).getLsbD (8 * b + 7) then 1#1 else 0#1 := by
  match b, hb with
  | 0, _ => exact ne_bit (w i) 7 (by decide)
  | 1, _ => exact ne_bit (w i) 15 (by decide)
  | 2, _ => exact ne_bit (w i) 23 (by decide)
  | 3, _ =>
    show BitVec.ofBool ((w i).slt 0#32) = if (w i).getLsbD 31 then 1#1 else 0#1
    rw [BitVec.slt_zero_eq_msb, BitVec.msb_eq_getLsbD_last]
    cases (w i).getLsbD 31 <;> rfl

/-- The table entry (one 32-bit word: two bf16 elements) a code selects in codebook `cb`, pair `p`. -/
def entry (x2 : S1x16x128.Idx → BitVec 32) (cb : Fin 2) (p : Fin 4) (code : BitVec 8) : BitVec 32 :=
  x2 (ix3 0 ⟨(cb.val * 4 + p.val) * 2 + code.toNat / 128, by have := code.isLt; omega⟩ ⟨code.toNat % 128, Nat.mod_lt _ (by decide)⟩)

/-- Element `par` of the pair. -/
def cbv (x2 : S1x16x128.Idx → BitVec 32) (cb : Fin 2) (p : Fin 4) (par : Fin 2) (code : BitVec 8) : EReal :=
  Ideal.ofBits .bf16 ((entry x2 cb p code).extractLsb' (16 * par.val) 16)

/-- The words looked up by byte `b` are the entries the codes in these bytes select. -/
theorem lookWords_apply (x2 : S1x16x128.Idx → BitVec 32) (cb : Fin 2) (p : Fin 4) (t : Fin 2 → IVec S8x128 32)
    (hT : ∀ h s l, t h (ix2 s l) = x2 (ix3 0 ⟨(cb.val * 4 + p.val) * 2 + h.val, by omega⟩ l))
    (w : IVec S8x128 32) (b : ℕ) (hb : b < 4) (s : Fin 8) (l : Fin 128) (code : BitVec 8)
    (hw : ∀ q, q < 8 → (w (ix2 s l)).getLsbD (8 * b + q) = code.getLsbD q) :
    lookWords (idxOf w (BitVec.ofNat 32 (8 * b))) (hiOf w b) (t 0) (t 1) (ix2 s l) = entry x2 cb p code := by
  have hidx : (idxOf w (BitVec.ofNat 32 (8 * b)) (ix2 s l)).toNat % 128 = code.toNat % 128 := by
    have h1 : (idxOf w (BitVec.ofNat 32 (8 * b)) (ix2 s l)).toNat = (w (ix2 s l)).toNat / 2 ^ (8 * b) % 128 :=
      idx_bits (w (ix2 s l)) (8 * b) (by omega)
    rw [h1, Nat.mod_mod]
    refine mod128_ext _ _ fun i hi => ?_
    rw [← Nat.shiftRight_eq_div_pow, Nat.testBit_shiftRight]
    exact hw i (by omega)
  have hhi : hiOf w b (ix2 s l) = if code.toNat / 128 = 1 then 1#1 else 0#1 := by
    rw [hi_bits w b hb, hw 7 (by decide)]
    have : code.getLsbD 7 = decide (code.toNat / 128 = 1) := by
      rw [BitVec.getLsbD, Nat.testBit_eq_decide_div_mod_eq]
      have := code.isLt
      rw [show (2 : ℕ) ^ 7 = 128 from rfl, Nat.mod_eq_of_lt (by omega)]
    rw [this]
    by_cases h : code.toNat / 128 = 1 <;> simp [h]
  have hc := code.isLt
  have hg : ∀ h : Fin 2, dynamicGather 1 (t h) (idxOf w (BitVec.ofNat 32 (8 * b))) (ix2 s l)
      = x2 (ix3 0 ⟨(cb.val * 4 + p.val) * 2 + h.val, by omega⟩ ⟨code.toNat % 128, Nat.mod_lt _ (by decide)⟩) := by
    intro h
    rw [← hT h s]
    refine congrArg (t h) ?_
    funext a
    match a with
    | ⟨0, _⟩ => rfl
    | ⟨1, _⟩ => exact Fin.ext hidx
  have hsc : shapeCast S8x128 (shapeCast S8x128x1 (idxOf w (BitVec.ofNat 32 (8 * b))) shapeCasts_S8x128_S8x128x1) shapeCasts_S8x128x1_S8x128
      = idxOf w (BitVec.ofNat 32 (8 * b)) := by
    funext j
    pointwise []
  unfold lookWords
  rw [hsc]
  show Scalar.select (hiOf w b (ix2 s l)) (dynamicGather 1 (t 1) _ _) (dynamicGather 1 (t 0) _ _) = _
  rw [hhi]
  unfold entry
  by_cases h : code.toNat / 128 = 1
  · rw [if_pos h]
    refine (hg 1).trans (congrArg x2 ?_)
    funext a
    match a with
    | ⟨0, _⟩ => rfl
    | ⟨1, _⟩ => exact Fin.ext (by show (cb.val * 4 + p.val) * 2 + 1 = (cb.val * 4 + p.val) * 2 + code.toNat / 128; omega)
    | ⟨2, _⟩ => rfl
  · rw [if_neg h]
    refine (hg 0).trans (congrArg x2 ?_)
    funext a
    match a with
    | ⟨0, _⟩ => rfl
    | ⟨1, _⟩ => exact Fin.ext (by show (cb.val * 4 + p.val) * 2 + 0 = (cb.val * 4 + p.val) * 2 + code.toNat / 128; omega)
    | ⟨2, _⟩ => rfl

/-- The words as rows of bf16: row `2 s + par` is half `par` of word `s`. -/
theorem look_apply (idx : IVec S8x128 32) (hi : IVec S8x128 1) (t0 t1 : IVec S8x128 32) (s : Fin 8) (par : Fin 2) (l : Fin 128) :
    look (F := Ideal) idx hi t0 t1 (ix2 ⟨2 * s.val + par.val, by omega⟩ l)
      = Ideal.ofBits .bf16 ((lookWords idx hi t0 t1 (ix2 s l)).extractLsb' (16 * par.val) 16) := by
  show Ideal.ofBits .bf16 (bitcast S16x128 16 (lookWords idx hi t0 t1) bitcasts_S8x128_w32_S16x128_w16 _) = _
  rw [bitcast_32_16]
  have hrow : S16x128.row (ix2 (⟨2 * s.val + par.val, by omega⟩ : Fin 16) l) = 2 * s.val + par.val := rfl
  congr 1
  rw [show 16 * (S16x128.row (ix2 (⟨2 * s.val + par.val, by omega⟩ : Fin 16) l) % 2) = 16 * par.val by rw [hrow]; omega]
  congr 2
  funext c
  match c with
  | ⟨0, _⟩ => exact Fin.ext ((Shape.Bitcasts.srcIdx_row _ _ _ _ ⟨0, Nat.zero_lt_two⟩ rfl).trans (by rw [hrow]; show _ = s.val; omega))
  | ⟨1, _⟩ => exact Fin.ext (Shape.Bitcasts.srcIdx_other _ _ _ _ ⟨1, Nat.one_lt_two⟩ (by show ¬ 1 + 2 = 2; omega))

/-- A block of the decoded tile: row `rr` of half `h`, lane `l` is the sum of the two entries its codes select. -/
theorem block_apply (x2 : S1x16x128.Idx → BitVec 32) (T : Fin 2 → Fin 4 → Fin 2 → IVec S8x128 32)
    (hT : ∀ cb p h s l, T cb p h (ix2 s l) = x2 (ix3 0 ⟨(cb.val * 4 + p.val) * 2 + h.val, by omega⟩ l))
    (C : Fin 2 → Fin 32 → Fin 128 → BitVec 8) (W : Fin 2 → IVec S8x128 32)
    (hW : ∀ cb s l q (hq : q < 32), (W cb (ix2 s l)).getLsbD q
      = (C cb ⟨16 * (q / 8 / 2) + 2 * s.val + q / 8 % 2, by omega⟩ l).getLsbD (q % 8))
    (h : Fin 2) (p : Fin 4) (par : Fin 2) (rr : Fin 16) (l : Fin 128) :
    block (F := Ideal) T W h p par (ix2 rr l)
      = cbv x2 0 p par (C 0 ⟨16 * h.val + rr.val, by omega⟩ l) + cbv x2 1 p par (C 1 ⟨16 * h.val + rr.val, by omega⟩ l) := by
  have hacc : ∀ q : Fin 2, q.val = rr.val % 2 → acc (F := Ideal) T W (2 * h.val + q.val) p (ix2 ⟨2 * (rr.val / 2) + par.val, by omega⟩ l)
      = cbv x2 0 p par (C 0 ⟨16 * h.val + rr.val, by omega⟩ l) + cbv x2 1 p par (C 1 ⟨16 * h.val + rr.val, by omega⟩ l) := by
    intro q hq
    have hcb : ∀ cb : Fin 2, look (F := Ideal) (idxOf (W cb) (BitVec.ofNat 32 (8 * (2 * h.val + q.val)))) (hiOf (W cb) (2 * h.val + q.val))
        (T cb p 0) (T cb p 1) (ix2 ⟨2 * (rr.val / 2) + par.val, by omega⟩ l) = cbv x2 cb p par (C cb ⟨16 * h.val + rr.val, by omega⟩ l) := by
      intro cb
      rw [look_apply _ _ _ _ (⟨rr.val / 2, by omega⟩ : Fin 8) par l]
      unfold cbv
      rw [lookWords_apply x2 cb p (T cb p) (hT cb p) (W cb) (2 * h.val + q.val) (by omega) ⟨rr.val / 2, by omega⟩ l
        (C cb ⟨16 * h.val + rr.val, by omega⟩ l)]
      intro i hi
      rw [hW cb _ _ _ (by omega)]
      have e1 : (8 * (2 * h.val + q.val) + i) % 8 = i := by omega
      have e2 : (8 * (2 * h.val + q.val) + i) / 8 = 2 * h.val + q.val := by omega
      have e3 : (⟨16 * ((8 * (2 * h.val + q.val) + i) / 8 / 2) + 2 * (rr.val / 2) + (8 * (2 * h.val + q.val) + i) / 8 % 2, by omega⟩ : Fin 32)
          = ⟨16 * h.val + rr.val, by omega⟩ := Fin.ext (by show 16 * ((8 * (2 * h.val + q.val) + i) / 8 / 2) + 2 * (rr.val / 2) + (8 * (2 * h.val + q.val) + i) / 8 % 2 = 16 * h.val + rr.val; omega)
      rw [e1]
      exact congrArg (fun r => (C cb r l).getLsbD i) e3
    show _ + _ = _
    exact congrArg₂ (· + ·) (hcb 0) (hcb 1)
  pointwise [block]
  by_cases hr : rr.val % 2 = 0
  · rw [if_pos hr]
    exact hacc 0 hr.symm
  · rw [if_neg hr]
    exact hacc 1 (by show 1 = _; omega)

/-- The table rows the kernel broadcasts hold the loaded words. -/
theorem row_apply (v : Vec Ideal S1x1x128 .i32) (s : Fin 8) (l : Fin 128) : k0_pay5 (F := Ideal) v (ix2 s l) = v (ix3 0 0 l) := by
  pointwise [k0_pay5]

/-- A 32-row block with its rows in the order the words take them. -/
def permuted (v : Vec Ideal S1x1x32x128 .i8) : IVec S32x128 8 :=
  shapeCast S32x128 (transpose S8x2x2x128 [1, 0, 2, 3] (shapeCast S2x8x2x128 (shapeCast S32x128 v shapeCasts_S1x1x32x128_S32x128)
    shapeCasts_S32x128_S2x8x2x128) transposes_S2x8x2x128_p1_0_2_3_S8x2x2x128) shapeCasts_S8x2x2x128_S32x128

/-- The permuted block of codes, read at a row and a lane. -/
theorem permuted_apply (v : Vec Ideal S1x1x32x128 .i8) (r : Fin 32) (l : Fin 128) :
    permuted v (ix2 r l) = v (ix4 0 0 ⟨16 * (r.val % 4 / 2) + 2 * (r.val / 4) + r.val % 2, by omega⟩ l) := by
  pointwise [permuted]
  refine congrArg v ?_
  funext a
  match a with
  | ⟨0, _⟩ => rfl
  | ⟨1, _⟩ => rfl
  | ⟨2, _⟩ => exact Fin.ext (by show r.val / 2 % 2 * 16 + r.val / 4 * 2 + r.val % 2 = 16 * (r.val % 4 / 2) + 2 * (r.val / 4) + r.val % 2; omega)
  | ⟨3, _⟩ => rfl

/-- The code words of a 32-row block, bit by bit. -/
theorem word_apply (v : Vec Ideal S1x1x32x128 .i8) (s : Fin 8) (l : Fin 128) (q : ℕ) (hq : q < 32) :
    (k0_pay21 (F := Ideal) v (ix2 s l)).getLsbD q
      = (v (ix4 0 0 ⟨16 * (q / 8 / 2) + 2 * s.val + q / 8 % 2, by omega⟩ l)).getLsbD (q % 8) := by
  rw [show k0_pay21 (F := Ideal) v = bitcast S8x128 32 (permuted v) bitcasts_S32x128_w8_S8x128_w32 from rfl]
  have h := bitcast_8_32_getLsbD_ix2 (permuted v) bitcasts_S32x128_w8_S8x128_w32 s l q hq ⟨4 * s.val + q / 8, by omega⟩ rfl
  refine h.trans ?_
  refine congrArg (fun b : BitVec 8 => b.getLsbD (q % 8)) ((permuted_apply v ⟨4 * s.val + q / 8, by omega⟩ l).trans (congrArg v ?_))
  funext a
  match a with
  | ⟨0, _⟩ => rfl
  | ⟨1, _⟩ => rfl
  | ⟨2, _⟩ => exact Fin.ext (by
      show 16 * ((4 * s.val + q / 8) % 4 / 2) + 2 * ((4 * s.val + q / 8) / 4) + (4 * s.val + q / 8) % 2 = 16 * (q / 8 / 2) + 2 * s.val + q / 8 % 2
      omega)
  | ⟨3, _⟩ => rfl

end Cert.Proof.Decode

end
-- ==== Proof.DecodeTile.lean ====
module

public import proofs.«01_k».proof.Proof.DecodeValue
public import Idealize.ShloMosaic.Lib.Writes

@[expose] public section

noncomputable section

/-! The scratch after the decoding of a tile: row `r`, column `j * 256 + g` holds element `j` of the group `g` of the
    output feature `128 k + r`. -/

namespace Cert.Proof.Decode

open Cert.KernelIdeal Cert.KernelIdeal.Gen
open Idealize.ShloMosaic Idealize.ShloMosaic.TcCoe

/-- The decoded weight of output feature `f` at the column `col` of the permuted activations. -/
def wt (x1 : S1x2x1408x256.Idx → BitVec 8) (x2 : S1x16x128.Idx → BitVec 32) (f : Fin 1408) (col : Fin 2048) : EReal :=
  cbv x2 0 ⟨col.val / 256 / 2, by omega⟩ ⟨col.val / 256 % 2, by omega⟩ (x1 (ix4 0 0 f ⟨col.val % 256, by omega⟩))
    + cbv x2 1 ⟨col.val / 256 / 2, by omega⟩ ⟨col.val / 256 % 2, by omega⟩ (x1 (ix4 0 1 f ⟨col.val % 256, by omega⟩))

/-- The loop over the feature tiles makes eleven trips. -/
theorem t1_trips : k0_t1_loop.trips = 11 := by decide

variable (arg5 : Memref sig .tc .vmem S1x2x1408x256 .i8) (X5 : BufTy.Contents (Elt Ideal) arg5.view.ty)
  (arg6 : Memref sig .tc .vmem S1x16x128 .i32) (X6 : BufTy.Contents (Elt Ideal) arg6.view.ty) (k : Fin k0_t1_loop.trips)

/-- The table rows, by the table's contents. -/
theorem tableRows_apply (cb : Fin 2) (p : Fin 4) (h : Fin 2) (s : Fin 8) (l : Fin 128) :
    tableRows arg6 X6 cb p h (ix2 s l) = arg6.view.read (Elt Ideal) X6 (ix3 0 ⟨(cb.val * 4 + p.val) * 2 + h.val, by omega⟩ l) := by
  unfold tableRows
  rw [row_apply]
  show arg6.view.read (Elt Ideal) X6 _ = _
  refine congrArg _ ?_
  funext a
  match a with
  | ⟨0, _⟩ => rfl
  | ⟨1, _⟩ => exact Fin.ext (by show (cb.val * 4 + p.val) * 2 + h.val + 1 * 0 = _; rfl)
  | ⟨2, _⟩ => exact Fin.ext (by show 0 + 1 * l.val = l.val; omega)

/-- The code words, bit by bit, by the codes' contents. -/
theorem codeWords_apply (rb : Fin 4) (kh : Fin 2) (cb : Fin 2) (s : Fin 8) (l : Fin 128) (q : ℕ) (hq : q < 32) :
    (codeWords arg5 X5 k rb kh cb (ix2 s l)).getLsbD q
      = (arg5.view.read (Elt Ideal) X5 (ix4 0 cb ⟨128 * k.val + 32 * rb.val + (16 * (q / 8 / 2) + 2 * s.val + q / 8 % 2), by
          have := k.isLt; have := t1_trips; omega⟩ ⟨128 * kh.val + l.val, by omega⟩)).getLsbD (q % 8) := by
  have key : ∀ (kh cb : Fin 2) (off : Fin 4 → ℕ) (inb) (h : off = ![0, cb.val, 128 * k.val + 32 * rb.val, 128 * kh.val]),
      (k0_pay21 (F := Ideal) (View.readAt (Elt Ideal) arg5.view (Rect.unit (s := S1x2x1408x256) off S1x1x32x128.size inb).toLoadRect X5) (ix2 s l)).getLsbD q
      = (arg5.view.read (Elt Ideal) X5 (ix4 0 cb ⟨128 * k.val + 32 * rb.val + (16 * (q / 8 / 2) + 2 * s.val + q / 8 % 2), by
          have := k.isLt; have := t1_trips; omega⟩ ⟨128 * kh.val + l.val, by omega⟩)).getLsbD (q % 8) := by
    intro kh cb off inb h
    subst h
    rw [word_apply _ s l q hq]
    show (arg5.view.read (Elt Ideal) X5 _).getLsbD _ = _
    refine congrArg (fun i => (arg5.view.read (Elt Ideal) X5 i).getLsbD (q % 8)) ?_
    funext a
    match a with
    | ⟨0, _⟩ => rfl
    | ⟨1, _⟩ => exact Fin.ext (by show cb.val + 1 * 0 = cb.val; omega)
    | ⟨2, _⟩ => exact Fin.ext (by
        show 128 * k.val + 32 * rb.val + 1 * (16 * (q / 8 / 2) + 2 * s.val + q / 8 % 2) = 128 * k.val + 32 * rb.val + (16 * (q / 8 / 2) + 2 * s.val + q / 8 % 2)
        omega)
    | ⟨3, _⟩ => exact Fin.ext (by show 128 * kh.val + 1 * l.val = 128 * kh.val + l.val; omega)
  match kh, cb with
  | 0, 0 => rw [codeWords]; exact key 0 0 _ _ (k0_off5_eq k rb)
  | 0, 1 => rw [codeWords]; exact key 0 1 _ _ (k0_off6_eq k rb)
  | 1, 0 => rw [codeWords]; exact key 1 0 _ _ (k0_off7_eq k rb)
  | 1, 1 => rw [codeWords]; exact key 1 1 _ _ (k0_off8_eq k rb)

/-- What the scratch holds of the tile `k`. -/
def tileAt (i : S128x2048.Idx) : Elt Ideal .bf16 :=
  wt (arg5.view.read (Elt Ideal) X5) (arg6.view.read (Elt Ideal) X6) ⟨128 * k.val + (i 0).val, by
    have := k.isLt; have := t1_trips; have : (i 0).val < 128 := (i 0).isLt; omega⟩ (i 1)

/-- Every store of the decoding puts the tile's values in its place. -/
theorem piece_value (rb : Fin 4) (kh h : Fin 2) (p : Fin 4) (par : Fin 2) (x : S16x128.Idx) :
    block (F := Ideal) (tableRows arg6 X6) (codeWords arg5 X5 k rb kh) h p par x
      = tileAt arg5 X5 arg6 X6 k ((piece (F := Ideal) (tableRows arg6 X6) (codeWords arg5 X5 k) rb kh h p par).1.emb x) := by
  obtain ⟨rr, l, rfl⟩ : ∃ (rr : Fin 16) (l : Fin 128), x = ix2 rr l := ⟨x 0, x 1, by funext a; match a with | ⟨0, _⟩ => rfl | ⟨1, _⟩ => rfl⟩
  have hk := k.isLt
  have ht := t1_trips
  rw [block_apply (arg6.view.read (Elt Ideal) X6) _ (tableRows_apply arg6 X6)
    (fun cb r l => arg5.view.read (Elt Ideal) X5 (ix4 0 cb ⟨128 * k.val + 32 * rb.val + r.val, by omega⟩ ⟨128 * kh.val + l.val, by omega⟩))
    _ (fun cb s l q hq => codeWords_apply arg5 X5 k rb kh cb s l q hq)]
  unfold tileAt wt
  have e1 : ((piece (F := Ideal) (tableRows arg6 X6) (codeWords arg5 X5 k) rb kh h p par).1.emb (ix2 rr l) 1).val
      = (2 * p.val + par.val) * 256 + 128 * kh.val + 1 * l.val := rfl
  have e0 : ((piece (F := Ideal) (tableRows arg6 X6) (codeWords arg5 X5 k) rb kh h p par).1.emb (ix2 rr l) 0).val
      = 32 * rb.val + 16 * h.val + 1 * rr.val := rfl
  have hx : ∀ cb : Fin 2, cbv (arg6.view.read (Elt Ideal) X6) cb p par (arg5.view.read (Elt Ideal) X5
        (ix4 0 cb ⟨128 * k.val + 32 * rb.val + (16 * h.val + rr.val), by omega⟩ ⟨128 * kh.val + l.val, by omega⟩))
      = cbv (arg6.view.read (Elt Ideal) X6) cb
          ⟨((piece (F := Ideal) (tableRows arg6 X6) (codeWords arg5 X5 k) rb kh h p par).1.emb (ix2 rr l) 1).val / 256 / 2, by rw [e1]; omega⟩
          ⟨((piece (F := Ideal) (tableRows arg6 X6) (codeWords arg5 X5 k) rb kh h p par).1.emb (ix2 rr l) 1).val / 256 % 2, by omega⟩
          (arg5.view.read (Elt Ideal) X5 (ix4 0 cb ⟨128 * k.val + ((piece (F := Ideal) (tableRows arg6 X6) (codeWords arg5 X5 k) rb kh h p par).1.emb (ix2 rr l) 0).val, by rw [e0]; omega⟩
            ⟨((piece (F := Ideal) (tableRows arg6 X6) (codeWords arg5 X5 k) rb kh h p par).1.emb (ix2 rr l) 1).val % 256, by omega⟩)) := by
    intro cb
    congr 1
    · exact Fin.ext (by show p.val = _ / 256 / 2; rw [e1]; omega)
    · exact Fin.ext (by show par.val = _ / 256 % 2; rw [e1]; omega)
    · congr 1
      funext a
      match a with
      | ⟨0, _⟩ => rfl
      | ⟨1, _⟩ => rfl
      | ⟨2, _⟩ => exact Fin.ext (by show 128 * k.val + 32 * rb.val + (16 * h.val + rr.val) = 128 * k.val + _; rw [e0]; omega)
      | ⟨3, _⟩ => exact Fin.ext (by show 128 * kh.val + l.val = _ % 256; rw [e1]; omega)
  exact congrArg₂ (· + ·) (hx 0) (hx 1)

/-- The scratch after the decoding. -/
theorem read_pieces (arg9 : Memref sig .tc .vmem S128x2048 .bf16) (f9 : BufTy.Contents (Elt Ideal) arg9.view.ty) :
    arg9.view.read (Elt Ideal) (arg9.view.writes (Elt Ideal) f9 (pieces (F := Ideal) (tableRows arg6 X6) (codeWords arg5 X5 k)))
      = tileAt arg5 X5 arg6 X6 k := by
  funext y
  have mem4 : ∀ a : Fin 4, a ∈ ([3, 2, 1, 0] : List (Fin 4)) := by decide
  have mem2 : ∀ a : Fin 2, a ∈ ([1, 0] : List (Fin 2)) := by decide
  refine View.read_writes_apply_of_pieces (Val := Elt Ideal) arg9.view f9 (tileAt arg5 X5 arg6 X6 k) _ ?_ y ?_
  · intro q hq
    simp only [pieces, List.mem_flatMap, List.mem_map] at hq
    obtain ⟨rb, -, kh, -, h, -, p, -, par, -, rfl⟩ := hq
    exact piece_value arg5 X5 arg6 X6 k rb kh h p par
  · have h0 : (y 0).val < 128 := (y 0).isLt
    have h1 : (y 1).val < 2048 := (y 1).isLt
    refine ⟨piece (tableRows arg6 X6) (codeWords arg5 X5 k) ⟨(y 0).val / 32, by omega⟩ ⟨(y 1).val % 256 / 128, by omega⟩ ⟨(y 0).val % 32 / 16, by omega⟩
      ⟨(y 1).val / 256 / 2, by omega⟩ ⟨(y 1).val / 256 % 2, by omega⟩, ?_, ?_⟩
    · simp only [pieces, List.mem_flatMap, List.mem_map]
      exact ⟨_, mem4 _, _, mem2 _, _, mem2 _, _, mem4 _, _, mem2 _, rfl⟩
    · refine (Rect.mem_set_unit (inb := block_inb _ _ _ _ _)).mpr fun a => ?_
      match a with
      | ⟨0, _⟩ =>
        show 32 * ((y 0).val / 32) + 16 * ((y 0).val % 32 / 16) ≤ (y 0).val ∧ (y 0).val < 32 * ((y 0).val / 32) + 16 * ((y 0).val % 32 / 16) + 16
        omega
      | ⟨1, _⟩ =>
        show (2 * ((y 1).val / 256 / 2) + (y 1).val / 256 % 2) * 256 + 128 * ((y 1).val % 256 / 128) ≤ (y 1).val
          ∧ (y 1).val < (2 * ((y 1).val / 256 / 2) + (y 1).val / 256 % 2) * 256 + 128 * ((y 1).val % 256 / 128) + 128
        omega

end Cert.Proof.Decode

end
-- ==== Proof.ChunkValue.lean ====
module

public import proofs.«01_k».proof.Proof.Gen.KernelIdeal.Skeleton
public import proofs.«01_k».proof.Proof.KernelWords
public import Idealize.ShloMosaic.Lib.Writes
public import Idealize.ShloMosaic.Lib.Pointwise
public import Idealize.ShloMosaic.Lib.WordCmp
public import Idealize.ShloMosaic.Lib.ValueIdx
public import Idealize.ShloMosaic.PureOps.Ideal

@[expose] public section

noncomputable section

/-! One chunk of 128 rows against one tile of 128 output features, element by element. -/

namespace Cert.Proof.KernelIdeal

open Cert.KernelIdeal Cert.KernelIdeal.Gen
open Idealize.ShloMosaic Idealize.ShloMosaic.TcCoe

/-- The chunk's first row, as the payload computes it. -/
theorem startOf {v10 v31 : BitVec 32} {lo n : ℕ} (h10 : v10 = BitVec.ofNat 32 lo) (h31 : v31 = ChunkWords.baseW v10) (hlo : lo < 2 ^ 29)
    (hn : n < 2 ^ 22) :
    Scalar.minsi (Scalar.addi v31 (Scalar.muli (Scf.iv 0#32 1#32 n) 128#32)) 1408#32 = BitVec.ofNat 32 (ChunkWords.start lo n) := by
  subst h31 h10
  exact ChunkWords.startW_word hlo hn

/-- The chunk's rows that the group owns get the product of the activations' row with the decoded feature, times the
    feature's scale; the other rows stay. -/
theorem pay3_apply {v10 v13 v31 : BitVec 32} {lo hi : ℕ} (h10 : v10 = BitVec.ofNat 32 lo) (h13 : v13 = BitVec.ofNat 32 hi)
    (hlo : lo ≤ hi) (hhi : hi ≤ 92160) (h31 : v31 = ChunkWords.baseW v10) (t2 : Fin (k0_t2_loop v10 v13).trips) (ht : t2.val < 4096)
    (sc : Vec Ideal S1x1x128 .f32) (x : Vec Ideal S128x2048 .bf16) (w : Vec Ideal S128x2048 .bf16) (old : Vec Ideal S128x128 .bf16)
    (r f : Fin 128) :
    k0_pay3 (F := Ideal) v10 v13 v31 sc t2 x w old (ix2 r f)
      = if lo ≤ ChunkWords.start lo t2.val + r.val ∧ ChunkWords.start lo t2.val + r.val < hi
          then (∑ col : Fin 2048, x (ix2 r col) * w (ix2 f col)) * sc (ix3 0 0 f) else old (ix2 r f) := by
  pointwise [k0_pay3, k0_pay2]
  generalize t2.val = n at ht ⊢
  have hs := startOf h10 h31 (show lo < 2 ^ 29 by omega) (show n < 2 ^ 22 by omega)
  have hr : IntOp.addi (BitVec.ofNat 32 (ChunkWords.start lo n)) (BitVec.ofNat 32 r.val) = BitVec.ofNat 32 (ChunkWords.start lo n + r.val) :=
    (BitVec.ofNat_add ..).symm
  have hle := ChunkWords.start_le lo n
  rw [hs, hr, h10, h13]
  have e : ∀ n : ℕ, n < 2 ^ 31 → (BitVec.ofNat 32 n).toInt = n := fun n hn => WordCmp.toInt_ofNat_of_lt hn
  have h1 : IntOp.cmpi .sge (BitVec.ofNat 32 (ChunkWords.start lo n + r.val)) (BitVec.ofNat 32 lo)
      = BitVec.ofBool (decide (lo ≤ ChunkWords.start lo n + r.val)) := by
    show BitVec.ofBool (BitVec.sle _ _) = _
    rw [BitVec.sle_eq_decide, e _ (by omega), e _ (by omega)]
    exact congrArg BitVec.ofBool (decide_eq_decide.mpr (by omega))
  have h2 : IntOp.cmpi .slt (BitVec.ofNat 32 (ChunkWords.start lo n + r.val)) (BitVec.ofNat 32 hi)
      = BitVec.ofBool (decide (ChunkWords.start lo n + r.val < hi)) := by
    show BitVec.ofBool (BitVec.slt _ _) = _
    rw [BitVec.slt_eq_decide, e _ (by omega), e _ (by omega)]
    exact congrArg BitVec.ofBool (decide_eq_decide.mpr (by omega))
  rw [h1, h2]
  by_cases a : lo ≤ ChunkWords.start lo n + r.val <;> by_cases b : ChunkWords.start lo n + r.val < hi <;>
    simp [a, b, IntOp.andi, Scalar.select]

/-- What the output holds after the first `n` chunks of the tile `k`: the rows `[lo, hi)` reached so far hold `G` in the
    tile's columns, every other place what it held. -/
def AfterChunks (lo hi k : ℕ) (G : Fin 1536 → Fin 1408 → EReal) (y0 : S1536x1408.Idx → Elt Ideal .bf16) (n : ℕ)
    (y : S1536x1408.Idx → Elt Ideal .bf16) : Prop :=
  ∀ (r : Fin 1536) (f : Fin 1408), y (ix2 r f)
    = if (128 * k ≤ f.val ∧ f.val < 128 * k + 128) ∧ (lo ≤ r.val ∧ r.val < hi) ∧ r.val < lo / 16 * 16 + 128 * n then G r f else y0 (ix2 r f)

/-- Before the first chunk nothing is changed. -/
theorem afterChunks_zero (lo hi k : ℕ) (G) (y0) : AfterChunks lo hi k G y0 0 y0 := by
  intro r f
  rw [if_neg (by omega)]

/-- One more chunk. -/
theorem afterChunks_succ {lo hi k n : ℕ} {G} {y0 y y' : S1536x1408.Idx → Elt Ideal .bf16}
    (h : AfterChunks lo hi k G y0 n y)
    (hin : ∀ (r : Fin 1536) (f : Fin 1408), (ChunkWords.start lo n ≤ r.val ∧ r.val < ChunkWords.start lo n + 128) → (128 * k ≤ f.val ∧ f.val < 128 * k + 128) →
      y' (ix2 r f) = if lo ≤ r.val ∧ r.val < hi then G r f else y (ix2 r f))
    (hout : ∀ (r : Fin 1536) (f : Fin 1408), ¬ ((ChunkWords.start lo n ≤ r.val ∧ r.val < ChunkWords.start lo n + 128) ∧ (128 * k ≤ f.val ∧ f.val < 128 * k + 128)) →
      y' (ix2 r f) = y (ix2 r f)) :
    AfterChunks lo hi k G y0 (n + 1) y' := by
  intro r f
  have hs : ChunkWords.start lo n = min (lo / 16 * 16 + 128 * n) 1408 := rfl
  have hr := r.isLt
  by_cases hrow : ChunkWords.start lo n ≤ r.val ∧ r.val < ChunkWords.start lo n + 128
  · by_cases hcol : 128 * k ≤ f.val ∧ f.val < 128 * k + 128
    · rw [hin r f hrow hcol]
      by_cases hown : lo ≤ r.val ∧ r.val < hi
      · rw [if_pos hown, if_pos ⟨hcol, hown, by omega⟩]
      · rw [if_neg hown, h r f, if_neg (fun hh => hown hh.2.1), if_neg (fun hh => hown hh.2.1)]
    · rw [hout r f (fun hh => hcol hh.2), h r f, if_neg (fun hh => hcol hh.1), if_neg (fun hh => hcol hh.1)]
  · rw [hout r f (fun hh => hrow hh.1), h r f]
    by_cases hA : (128 * k ≤ f.val ∧ f.val < 128 * k + 128) ∧ (lo ≤ r.val ∧ r.val < hi) ∧ r.val < lo / 16 * 16 + 128 * n
    · rw [if_pos hA, if_pos ⟨hA.1, hA.2.1, by omega⟩]
    · rw [if_neg hA, if_neg (fun hh => hA ⟨hh.1, hh.2.1, by omega⟩)]

/-- One trip of the chunk loop, on the output's contents: the tile's columns of the chunk's rows are read, the rows the
    group owns are replaced, and the block is written back. -/
theorem chunk_step {v10 v13 v31 : BitVec 32} {lo hi : ℕ} (h10 : v10 = BitVec.ofNat 32 lo) (h13 : v13 = BitVec.ofNat 32 hi)
    (hlo : lo ≤ hi) (hhi : hi ≤ 92160) (h31 : v31 = ChunkWords.baseW v10) (k : Fin k0_t1_loop.trips) (t2 : Fin (k0_t2_loop v10 v13).trips)
    (arg4 : Memref sig .tc .vmem S1536x2048 .bf16) (arg7 : Memref sig .tc .vmem S1x1x1408 .f32)
    (arg8 : Memref sig .tc .vmem S1536x1408 .bf16) (arg9 : Memref sig .tc .vmem S128x2048 .bf16)
    (X4 : BufTy.Contents (Elt Ideal) arg4.view.ty) (X7 : BufTy.Contents (Elt Ideal) arg7.view.ty)
    (f8 : BufTy.Contents (Elt Ideal) arg8.view.ty) (X9 : BufTy.Contents (Elt Ideal) arg9.view.ty)
    (i9) (i10) (i0) (i11) (i11')
    (G : Fin 1536 → Fin 1408 → EReal) (y0 : S1536x1408.Idx → Elt Ideal .bf16)
    (hG : ∀ (r : Fin 1536) (f : Fin 1408) (hf : 128 * k.val ≤ f.val ∧ f.val < 128 * k.val + 128),
      G r f = (∑ col : Fin 2048, arg4.view.read (Elt Ideal) X4 (ix2 r col) * arg9.view.read (Elt Ideal) X9 (ix2 ⟨f.val - 128 * k.val, by omega⟩ col))
        * arg7.view.read (Elt Ideal) X7 (ix3 0 0 f))
    (h : AfterChunks lo hi k.val G y0 t2.val (arg8.view.read (Elt Ideal) f8)) :
    AfterChunks lo hi k.val G y0 (t2.val + 1) (arg8.view.read (Elt Ideal) (arg8.view.writes (Elt Ideal) f8
      [⟨Rect.unit (s := S1536x1408) (k0_off11 v10 v13 k t2) S128x128.size i11,
        k0_pay3 (F := Ideal) v10 v13 v31 (View.readAt (Elt Ideal) arg7.view (Rect.unit (s := S1x1x1408) (k0_off9 k) S1x1x128.size i9).toLoadRect X7) t2
          (View.readAt (Elt Ideal) arg4.view (Rect.unit (s := S1536x2048) (k0_off10 v10 v13 t2) S128x2048.size i10).toLoadRect X4)
          (View.readAt (Elt Ideal) arg9.view (Rect.unit (s := S128x2048) ![0, 0] S128x2048.size i0).toLoadRect X9)
          (View.readAt (Elt Ideal) arg8.view (Rect.unit (s := S1536x1408) (k0_off11 v10 v13 k t2) S128x128.size i11').toLoadRect f8)⟩])) := by
  have htr := t2_trips h10 h13 hlo (by omega)
  have ht : t2.val < 4096 := by
    have := lt_of_lt_of_eq t2.isLt htr
    unfold ChunkWords.nchunks at this
    omega
  have hst : ∀ (v : BitVec 32) (n : ℕ), v = BitVec.ofNat 32 lo → n < 4096 → (ChunkWords.startW v n).toNat = ChunkWords.start lo n := by
    intro v n hv hn
    have := ChunkWords.start_le lo n
    rw [hv, ChunkWords.startW_word (by omega) (by omega), WordCmp.toNat_ofNat_of_lt (by omega)]
  have hstart := hst v10 t2.val h10 ht
  have hsle := ChunkWords.start_le lo t2.val
  have hcol := Kernel.col_word k
  have hk := Kernel.t1_lt k
  have e11 : k0_off11 v10 v13 k t2 = ![ChunkWords.start lo t2.val, 128 * k.val] :=
    (Kernel.off11_eq v10 v13 k t2).trans (by rw [hstart, hcol])
  have e10 : k0_off10 v10 v13 t2 = ![ChunkWords.start lo t2.val, 0] := (Kernel.off10_eq v10 v13 t2).trans (by rw [hstart])
  have e9 : k0_off9 k = ![0, 0, 128 * k.val] :=
    (show k0_off9 k = ![0, 0, (Scalar.muli (Scf.iv 0#32 1#32 k) 128#32).toNat] from rfl).trans (by rw [hcol])
  revert i9 i10 i11 i11'
  rw [e11, e10, e9]
  intro i9 i10 i11 i11'
  refine afterChunks_succ h ?_ ?_
  · intro r f hr hf
    have hx := View.read_writes_cons_hit_of_coords (Val := Elt Ideal) arg8.view f8 (Rect.unit (s := S1536x1408) ![ChunkWords.start lo t2.val, 128 * k.val] S128x128.size i11)
      (k0_pay3 (F := Ideal) v10 v13 v31 (View.readAt (Elt Ideal) arg7.view (Rect.unit (s := S1x1x1408) ![0, 0, 128 * k.val] S1x1x128.size i9).toLoadRect X7) t2
          (View.readAt (Elt Ideal) arg4.view (Rect.unit (s := S1536x2048) ![ChunkWords.start lo t2.val, 0] S128x2048.size i10).toLoadRect X4)
          (View.readAt (Elt Ideal) arg9.view (Rect.unit (s := S128x2048) ![0, 0] S128x2048.size i0).toLoadRect X9)
          (View.readAt (Elt Ideal) arg8.view (Rect.unit (s := S1536x1408) ![ChunkWords.start lo t2.val, 128 * k.val] S128x128.size i11').toLoadRect f8))
      [] (ix2 ⟨r.val - ChunkWords.start lo t2.val, by omega⟩ ⟨f.val - 128 * k.val, by omega⟩) (ix2 r f) (fun a => by
        match a with
        | ⟨0, _⟩ => show r.val = ChunkWords.start lo t2.val + 1 * (r.val - ChunkWords.start lo t2.val); omega
        | ⟨1, _⟩ => show f.val = 128 * k.val + 1 * (f.val - 128 * k.val); omega)
    refine hx.trans ?_
    rw [pay3_apply h10 h13 hlo hhi h31 t2 ht]
    have er : ChunkWords.start lo t2.val + (r.val - ChunkWords.start lo t2.val) = r.val := by omega
    simp only [er]
    have r4 : ∀ col : Fin 2048, View.readAt (Elt Ideal) arg4.view (Rect.unit (s := S1536x2048) ![ChunkWords.start lo t2.val, 0] S128x2048.size i10).toLoadRect X4
        (ix2 ⟨r.val - ChunkWords.start lo t2.val, by omega⟩ col) = arg4.view.read (Elt Ideal) X4 (ix2 r col) := by
      intro col
      show arg4.view.read (Elt Ideal) X4 _ = _
      refine congrArg _ ?_
      funext a
      match a with
      | ⟨0, _⟩ => exact Fin.ext (by show ChunkWords.start lo t2.val + 1 * (r.val - ChunkWords.start lo t2.val) = r.val; omega)
      | ⟨1, _⟩ => exact Fin.ext (by show 0 + 1 * col.val = col.val; omega)
    have r9 : ∀ (g : Fin 128) (col : Fin 2048), View.readAt (Elt Ideal) arg9.view (Rect.unit (s := S128x2048) ![0, 0] S128x2048.size i0).toLoadRect X9
        (ix2 g col) = arg9.view.read (Elt Ideal) X9 (ix2 g col) := by
      intro g col
      show arg9.view.read (Elt Ideal) X9 _ = _
      refine congrArg _ ?_
      funext a
      match a with
      | ⟨0, _⟩ => exact Fin.ext (by show 0 + 1 * g.val = g.val; omega)
      | ⟨1, _⟩ => exact Fin.ext (by show 0 + 1 * col.val = col.val; omega)
    have r7 : View.readAt (Elt Ideal) arg7.view (Rect.unit (s := S1x1x1408) ![0, 0, 128 * k.val] S1x1x128.size i9).toLoadRect X7
        (ix3 0 0 ⟨f.val - 128 * k.val, by omega⟩) = arg7.view.read (Elt Ideal) X7 (ix3 0 0 f) := by
      show arg7.view.read (Elt Ideal) X7 _ = _
      refine congrArg _ ?_
      funext a
      match a with
      | ⟨0, _⟩ => rfl
      | ⟨1, _⟩ => rfl
      | ⟨2, _⟩ => exact Fin.ext (by show 128 * k.val + 1 * (f.val - 128 * k.val) = f.val; omega)
    have r8 : View.readAt (Elt Ideal) arg8.view (Rect.unit (s := S1536x1408) ![ChunkWords.start lo t2.val, 128 * k.val] S128x128.size i11').toLoadRect f8
        (ix2 ⟨r.val - ChunkWords.start lo t2.val, by omega⟩ ⟨f.val - 128 * k.val, by omega⟩) = arg8.view.read (Elt Ideal) f8 (ix2 r f) := by
      show arg8.view.read (Elt Ideal) f8 _ = _
      refine congrArg _ ?_
      funext a
      match a with
      | ⟨0, _⟩ => exact Fin.ext (by show ChunkWords.start lo t2.val + 1 * (r.val - ChunkWords.start lo t2.val) = r.val; omega)
      | ⟨1, _⟩ => exact Fin.ext (by show 128 * k.val + 1 * (f.val - 128 * k.val) = f.val; omega)
    rw [r7, r8, hG r f hf]
    simp only [r4, r9]
  · intro r f hrf
    by_cases hr : ChunkWords.start lo t2.val ≤ r.val ∧ r.val < ChunkWords.start lo t2.val + 128
    · exact View.read_writes_cons_miss_of_axis (Val := Elt Ideal) arg8.view f8 _ [] (ix2 r f) 1 (128 * k.val) 128 rfl rfl rfl
        (by show f.val < _ ∨ _ ≤ f.val; by_contra hc; exact hrf ⟨hr, by omega⟩)
    · exact View.read_writes_cons_miss_of_axis (Val := Elt Ideal) arg8.view f8 _ [] (ix2 r f) 0 (ChunkWords.start lo t2.val) 128 rfl rfl rfl
        (by show r.val < _ ∨ _ ≤ r.val; omega)

/-- What the output holds after the first `k` tiles. -/
def AfterTiles (lo hi : ℕ) (G : Fin 1536 → Fin 1408 → EReal) (y0 : S1536x1408.Idx → Elt Ideal .bf16) (k : ℕ)
    (y : S1536x1408.Idx → Elt Ideal .bf16) : Prop :=
  ∀ (r : Fin 1536) (f : Fin 1408), y (ix2 r f)
    = if f.val < 128 * k ∧ (lo ≤ r.val ∧ r.val < hi) then G r f else y0 (ix2 r f)

/-- Before the first tile nothing is changed. -/
theorem afterTiles_zero (lo hi : ℕ) (G) (y0) : AfterTiles lo hi G y0 0 y0 := by
  intro r f
  rw [if_neg (by omega)]

/-- One more tile: all its chunks. -/
theorem afterTiles_succ {lo hi k n : ℕ} {G} {y0 y y' : S1536x1408.Idx → Elt Ideal .bf16}
    (h : AfterTiles lo hi G y0 k y) (hn : hi ≤ lo / 16 * 16 + 128 * n) (hc : AfterChunks lo hi k G y n y') :
    AfterTiles lo hi G y0 (k + 1) y' := by
  intro r f
  rw [hc r f, h r f]
  by_cases hown : lo ≤ r.val ∧ r.val < hi
  · by_cases h1 : f.val < 128 * k
    · rw [if_neg (by omega), if_pos ⟨h1, hown⟩, if_pos ⟨by omega, hown⟩]
    · by_cases h2 : f.val < 128 * k + 128
      · rw [if_pos ⟨by omega, hown, by omega⟩, if_pos ⟨by omega, hown⟩]
      · rw [if_neg (by omega), if_neg (by omega), if_neg (by omega)]
  · rw [if_neg (fun hh => hown hh.2.1), if_neg (fun hh => hown hh.2), if_neg (fun hh => hown hh.2)]

end Cert.Proof.KernelIdeal

end
-- ==== Proof.KernelIdealTile.lean ====
/- The tile loop of the kernel with values: a tile is decoded into the scratch, and every chunk of rows that the group
   owns gets its product with the tile, scaled. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.LoopEntry
public import Idealize.ShloMosaic.Lib.Claim
public import Idealize.ShloMosaic.PureOps.Ideal
public import proofs.«01_k».proof.Proof.DecodeTile
public import proofs.«01_k».proof.Proof.ChunkValue
public import proofs.«01_k».proof.Proof.KernelWords

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- What a group's visit puts at a row and a feature: the row times the decoded feature, times the feature's scale. -/
def visitVal (x0 : S1536x2048.Idx → Elt Ideal .bf16) (x1 : S1x2x1408x256.Idx → Elt Ideal .i8) (x2 : S1x16x128.Idx → Elt Ideal .i32)
    (x3 : S1x1x1408.Idx → Elt Ideal .f32) (r : Fin 1536) (f : Fin 1408) : EReal :=
  (∑ col : Fin 2048, x0 (ix2 r col) * Decode.wt x1 x2 f col) * x3 (ix3 0 0 f)

section
variable (c : Dev nD) (arg4 : Memref sig .tc .vmem S1536x2048 .bf16) (arg5 : Memref sig .tc .vmem S1x2x1408x256 .i8)
  (arg6 : Memref sig .tc .vmem S1x16x128 .i32) (arg7 : Memref sig .tc .vmem S1x1x1408 .f32)
  (arg8 : Memref sig .tc .vmem S1536x1408 .bf16) (arg9 : Memref sig .tc .vmem S128x2048 .bf16)
  (X4 : BufTy.Contents (Elt Ideal) arg4.view.ty) (X5 : BufTy.Contents (Elt Ideal) arg5.view.ty)
  (X6 : BufTy.Contents (Elt Ideal) arg6.view.ty) (X7 : BufTy.Contents (Elt Ideal) arg7.view.ty)
  (y0 : S1536x1408.Idx → Elt Ideal .bf16) (lo hi : ℕ)

/-- The visit's value, of the buffers' contents. -/
abbrev visitOf : Fin 1536 → Fin 1408 → EReal :=
  visitVal (arg4.view.read (Elt Ideal) X4) (arg5.view.read (Elt Ideal) X5) (arg6.view.read (Elt Ideal) X6) (arg7.view.read (Elt Ideal) X7)

/-- Before the tile `n`: the inputs at their contents, the output after `n` tiles, the scratch at anything. -/
def tilesInv (n : ℕ) : sProp 𝕄 :=
  iprop((arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg7.view.loc (c : Thread nD τ) ↦[arg7.view.set]{fullShare} X7)
    ∗ (∃ f8, ⌜AfterTiles lo hi (visitOf arg4 arg5 arg6 arg7 X4 X5 X6 X7) y0 n (arg8.view.read (Elt Ideal) f8)⌝ ∗ (arg8.view.loc (c : Thread nD τ) ↦[arg8.view.set]{fullShare} f8))
    ∗ (∃ f9, (arg9.view.loc (c : Thread nD τ) ↦[arg9.view.set]{fullShare} f9)))

/-- Before the chunk `n` of the tile `k`: the output after `n` chunks, the scratch at the tile. -/
def chunksInv (G : Fin 1536 → Fin 1408 → EReal) (X9 : BufTy.Contents (Elt Ideal) arg9.view.ty) (k n : ℕ) : sProp 𝕄 :=
  iprop((arg4.view.loc (c : Thread nD τ) ↦[arg4.view.set]{fullShare} X4)
    ∗ (arg9.view.loc (c : Thread nD τ) ↦[arg9.view.set]{fullShare} X9)
    ∗ (∃ f8, ⌜AfterChunks lo hi k G y0 n (arg8.view.read (Elt Ideal) f8)⌝ ∗ (arg8.view.loc (c : Thread nD τ) ↦[arg8.view.set]{fullShare} f8)))
end

set_option maxHeartbeats 40000000 in
/-- One chunk. -/
theorem chunk_run (E : Set ℕ) (c : Dev nD) (i : grid0.Coords) (arg1 : Memref sig .tc .smem S60 .i32) (harg1 : arg1.IsWhole) (arg2 : Memref sig .tc .smem S61 .i32) (harg2 : arg2.IsWhole) (arg3 : Memref sig .tc .smem S1 .i32) (harg3 : arg3.IsWhole) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole) (v3 : Elt Ideal .i32) (k0_h2 : k0_cond2 i v3 = 1#1) (v10 : Elt Ideal .i32) (v13 : Elt Ideal .i32) (k0_hw2 : k0_chk2 i v3 v10 v13) (v31 : BitVec 32) (v35 : BitVec 32) (v46 : BitVec 1) (v47 : BitVec 32) (c0_i32_15 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
    {lo hi : ℕ} (h10 : v10 = BitVec.ofNat 32 lo) (h13 : v13 = BitVec.ofNat 32 hi) (hlo : lo ≤ hi) (hhi : hi ≤ 92160) (h31 : v31 = ChunkWords.baseW v10)
    (y0 : S1536x1408.Idx → Elt Ideal .bf16) (k : Fin k0_t1_loop.trips) (t2 : Fin (k0_t2_loop v10 v13).trips) (a2 : BitVec 32)
    (G : Fin 1536 → Fin 1408 → EReal) (X9 : BufTy.Contents (Elt Ideal) arg9.view.ty)
    (hG : ∀ (r : Fin 1536) (f : Fin 1408) (hf : 128 * k.val ≤ f.val ∧ f.val < 128 * k.val + 128),
      G r f = (∑ col : Fin 2048, arg4.view.read (Elt Ideal) X4 (ix2 r col) * arg9.view.read (Elt Ideal) X9 (ix2 ⟨f.val - 128 * k.val, by omega⟩ col))
        * arg7.view.read (Elt Ideal) X7 (ix3 0 0 f)) :
    chunksInv c arg4 arg8 arg9 X4 y0 lo hi G X9 k.val t2.val ⊢ wp Idealize.ShloMosaic.frame (wpE (defs₀ (F := Ideal)) Variants.none (c : Thread nD τ) none) E (k0_t2_body (F := Ideal) i arg1 harg1 arg2 harg2 arg3 harg3 arg4 harg4 arg5 harg5 arg6 harg6 arg7 harg7 arg8 harg8 arg9 harg9 v3 k0_h2 v10 v13 k0_hw2 v31 k
      (View.readAt (Elt Ideal) arg7.view (Rect.unit (s := S1x1x1408) (k0_off9 k) S1x1x128.size (k0_off9_inb k)).toLoadRect X7) t2 a2)
      (fun _ => chunksInv c arg4 arg8 arg9 X4 y0 lo hi G X9 k.val (t2.val + 1)) := by
  unfold k0_t2_body chunksInv
  iintro ⟨H4, H9, %f8, %h8, H8⟩
  sl_exec
  sl_step
  isplitl [H4]; · iexact H4
  isplitl [H9]; · iexact H9
  iexists _; isplitr
  swap
  · iexact H8
  · ipureintro
    exact chunk_step h10 h13 hlo hhi h31 k t2 arg4 arg7 arg8 arg9 X4 X7 f8 X9 _ _ _ _ _ G y0 hG h8

/-- The scratch's row of a feature of the tile. -/
theorem tileAt_at (arg5 : Memref sig .tc .vmem S1x2x1408x256 .i8) (arg6 : Memref sig .tc .vmem S1x16x128 .i32)
    (X5 : BufTy.Contents (Elt Ideal) arg5.view.ty) (X6 : BufTy.Contents (Elt Ideal) arg6.view.ty) (k : Fin k0_t1_loop.trips)
    (f : Fin 1408) (hf : 128 * k.val ≤ f.val ∧ f.val < 128 * k.val + 128) (col : Fin 2048) :
    Decode.tileAt arg5 X5 arg6 X6 k (ix2 ⟨f.val - 128 * k.val, by omega⟩ col)
      = Decode.wt (arg5.view.read (Elt Ideal) X5) (arg6.view.read (Elt Ideal) X6) f col :=
  congrArg (fun f => Decode.wt (arg5.view.read (Elt Ideal) X5) (arg6.view.read (Elt Ideal) X6) f col)
    (Fin.ext (by show 128 * k.val + (f.val - 128 * k.val) = f.val; omega))

section
attribute [local irreducible] shapeCast interleaveRows rowsOfParity addf bitcastToFloat bitcast dynamicGather select broadcast andi shrsi cmpi k0_off5 k0_off6 k0_off7 k0_off8 View.readAt Rect.unit
set_option maxHeartbeats 40000000 in
/-- One tile. -/
theorem tile_run (E : Set ℕ) (c : Dev nD) (i : grid0.Coords) (arg1 : Memref sig .tc .smem S60 .i32) (harg1 : arg1.IsWhole) (arg2 : Memref sig .tc .smem S61 .i32) (harg2 : arg2.IsWhole) (arg3 : Memref sig .tc .smem S1 .i32) (harg3 : arg3.IsWhole) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole) (v3 : Elt Ideal .i32) (k0_h2 : k0_cond2 i v3 = 1#1) (v10 : Elt Ideal .i32) (v13 : Elt Ideal .i32) (k0_hw2 : k0_chk2 i v3 v10 v13) (v31 : BitVec 32) (v35 : BitVec 32) (v46 : BitVec 1) (v47 : BitVec 32) (c0_i32_15 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
    {lo hi : ℕ} (h10 : v10 = BitVec.ofNat 32 lo) (h13 : v13 = BitVec.ofNat 32 hi) (hlo : lo ≤ hi) (hhi : hi ≤ 92160) (h31 : v31 = ChunkWords.baseW v10)
    (y0 : S1536x1408.Idx → Elt Ideal .bf16) (k : Fin k0_t1_loop.trips) :
    tilesInv c arg4 arg5 arg6 arg7 arg8 arg9 X4 X5 X6 X7 y0 lo hi k.val ⊢ wp Idealize.ShloMosaic.frame (wpE (defs₀ (F := Ideal)) Variants.none (c : Thread nD τ) none) E (k0_t1_body (F := Ideal) i arg1 harg1 arg2 harg2 arg3 harg3 arg4 harg4 arg5 harg5 arg6 harg6 arg7 harg7 arg8 harg8 arg9 harg9 v3 k0_h2 v10 v13 k0_hw2 v31 v35 v46 v47 c0_i32_15 k ())
      (fun _ => tilesInv c arg4 arg5 arg6 arg7 arg8 arg9 X4 X5 X6 X7 y0 lo hi (k.val + 1)) := by
  unfold k0_t1_body tilesInv
  iintro ⟨H4, H5, H6, H7, ⟨%f8, %h8, H8⟩, %f9, H9⟩
  sl_exec_parts
  have key : ∀ L, L = Decode.pieces (F := Ideal) (Decode.tableRows arg6 X6) (Decode.codeWords arg5 X5 k) →
      arg9.view.read (Elt Ideal) (arg9.view.writes (Elt Ideal) f9 L) = Decode.tileAt arg5 X5 arg6 X6 k := by
    rintro _ rfl
    exact Decode.read_pieces arg5 X5 arg6 X6 k arg9 f9
  generalize hX : arg9.view.writes (Elt Ideal) f9 _ = X9
  have hr : arg9.view.read (Elt Ideal) X9 = Decode.tileAt arg5 X5 arg6 X6 k := by
    rw [← hX]
    exact key _ (by rfl)
  clear hX key
  have hG : ∀ (r : Fin 1536) (f : Fin 1408) (hf : 128 * k.val ≤ f.val ∧ f.val < 128 * k.val + 128),
      visitOf arg4 arg5 arg6 arg7 X4 X5 X6 X7 r f = (∑ col : Fin 2048, arg4.view.read (Elt Ideal) X4 (ix2 r col) * arg9.view.read (Elt Ideal) X9 (ix2 ⟨f.val - 128 * k.val, by omega⟩ col))
        * arg7.view.read (Elt Ideal) X7 (ix3 0 0 f) := by
    intro r f hf
    rw [hr]
    simp only [tileAt_at arg5 arg6 X5 X6 k f hf]
    rfl
  sl_for (fun (n : ℕ) (_ : BitVec 32) => chunksInv c arg4 arg8 arg9 X4 (arg8.view.read (Elt Ideal) f8) lo hi (visitOf arg4 arg5 arg6 arg7 X4 X5 X6 X7) X9 k.val n) $$ [H4 H8 H9]
  case region =>
    intro t2 a2
    exact chunk_run E c i arg1 harg1 arg2 harg2 arg3 harg3 arg4 harg4 arg5 harg5 arg6 harg6 arg7 harg7 arg8 harg8 arg9 harg9 v3 k0_h2 v10 v13 k0_hw2 v31 v35 v46 v47 c0_i32_15 X4 X5 X6 X7 h10 h13 hlo hhi h31 _ k t2 a2 _ X9 hG
  · unfold chunksInv
    isplitl [H4]; · iexact H4
    isplitl [H9]; · iexact H9
    iexists f8; isplitr
    · ipureintro; exact afterChunks_zero _ _ _ _ _
    · iexact H8
  iintro %a HI
  sl_for (fun (_ : ℕ) (_ : BitVec 32) => chunksInv c arg4 arg8 arg9 X4 (arg8.view.read (Elt Ideal) f8) lo hi (visitOf arg4 arg5 arg6 arg7 X4 X5 X6 X7) X9 k.val (k0_t2_loop v10 v13).trips) $$ [HI]
  case region =>
    intro t3 a3
    exact (Kernel.t3_empty v10 v13 t3).elim
  · iexact HI
  iintro %a' HI
  unfold chunksInv
  icases HI with ⟨H4, H9, %f8', %h8', H8⟩
  sl_exec
  sl_step
  isplitl [H4]; · iexact H4
  isplitl [H5]; · iexact H5
  isplitl [H6]; · iexact H6
  isplitl [H7]; · iexact H7
  isplitl [H8]
  · iexists f8'; isplitr
    · ipureintro
      rw [t2_trips h10 h13 hlo (by omega)] at h8'
      exact afterTiles_succ h8 (by unfold ChunkWords.nchunks; omega) h8'
    · iexact H8
  · iexists _; iexact H9
end

end Cert.Proof.KernelIdeal

end
-- ==== Proof.KernelIdealVisit.lean ====
/- The body at a grid point with values: what the output holds after it. -/
module

public import proofs.«01_k».proof.Proof.Gen.KernelIdeal.Launch
public import proofs.«01_k».proof.Proof.Gen.KernelIdeal.Skeleton
public import proofs.«01_k».proof.Proof.KernelIdealPoints
public import proofs.«01_k».proof.Proof.KernelIdealTile
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Routing
open Idealize.ShloMosaic.Pipeline (Dat Cfg Window BodyObligation cellOf)

local notation "𝕄" => MT nD τ sig Unit (Elt Ideal) ℕ (UR sig nD τ) ℕ

/-- The output after the visit of the group `e`: its rows hold the visit's value, the others what the output held. -/
def visited (gs : HostFacts.Sizes) (e : Fin 60) (x0 : Vec Ideal S1536x2048 .bf16) (x1 : Vec Ideal S1x2x1408x256 .i8) (x2 : Vec Ideal S1x16x128 .i32)
    (x3 : Vec Ideal S1x1x1408 .f32) (y0 : Vec Ideal S1536x1408 .bf16) : Vec Ideal S1536x1408 .bf16 := fun y =>
  if HostFacts.off gs e.val ≤ (y 0).val ∧ (y 0).val < HostFacts.off gs (e.val + 1) then visitVal x0 x1 x2 x3 (y 0) (y 1) else y0 y

/-- The output after the last tile is the output after the visit. -/
theorem visited_of {gs : HostFacts.Sizes} {e : Fin 60} {x0 : Vec Ideal S1536x2048 .bf16} {x1 : Vec Ideal S1x2x1408x256 .i8}
    {x2 : Vec Ideal S1x16x128 .i32} {x3 : Vec Ideal S1x1x1408 .f32} {y0 y : Vec Ideal S1536x1408 .bf16}
    (h : AfterTiles (HostFacts.off gs e.val) (HostFacts.off gs (e.val + 1)) (visitVal x0 x1 x2 x3) y0 k0_t1_loop.trips y) :
    y = visited gs e x0 x1 x2 x3 y0 := by
  funext i
  obtain ⟨r, f, rfl⟩ : ∃ (r : Fin 1536) (f : Fin 1408), i = ix2 r f := ⟨i 0, i 1, by funext a; match a with | ⟨0, _⟩ => rfl | ⟨1, _⟩ => rfl⟩
  refine (h r f).trans ?_
  have ht := Decode.t1_trips
  have hf := f.isLt
  show _ = if HostFacts.off gs e.val ≤ r.val ∧ r.val < HostFacts.off gs (e.val + 1) then _ else _
  by_cases hr : HostFacts.off gs e.val ≤ r.val ∧ r.val < HostFacts.off gs (e.val + 1)
  · rw [if_pos hr, if_pos ⟨by omega, hr⟩]; rfl
  · rw [if_neg hr, if_neg (fun hh => hr hh.2)]

/-- The output cleared. -/
theorem read_cleared (arg8 : Memref sig .tc .vmem S1536x1408 .bf16) (f8 : BufTy.Contents (Elt Ideal) arg8.view.ty) :
    arg8.view.read (Elt Ideal) (arg8.view.writes (Elt Ideal) f8 [⟨Rect.unit (s := S1536x1408) ![0, 0] S1536x1408.size inb_S1536x1408_S1536x1408_0_0, k0_pay1 (F := Ideal)⟩])
      = k0_pay1 (F := Ideal) := by
  funext i
  exact View.read_writes_cons_hit_of_coords (Val := Elt Ideal) arg8.view f8 _ _ [] i i (fun a => by
    match a with
    | ⟨0, _⟩ => show (i 0).val = 0 + 1 * (i 0).val; omega
    | ⟨1, _⟩ => show (i 1).val = 0 + 1 * (i 1).val; omega)

/-- So the tiles start from zeros. -/
theorem afterTiles_cleared (lo hi : ℕ) (G) (arg8 : Memref sig .tc .vmem S1536x1408 .bf16) (f8 : BufTy.Contents (Elt Ideal) arg8.view.ty) :
    AfterTiles lo hi G (k0_pay1 (F := Ideal)) 0 (arg8.view.read (Elt Ideal) (arg8.view.writes (Elt Ideal) f8
      [⟨Rect.unit (s := S1536x1408) ![0, 0] S1536x1408.size inb_S1536x1408_S1536x1408_0_0, k0_pay1 (F := Ideal)⟩])) := by
  rw [read_cleared]
  exact afterTiles_zero _ _ _ _

/-- The visit's value of whole buffers. -/
theorem unread_visitOf {arg4 : Memref sig .tc .vmem S1536x2048 .bf16} (harg4 : arg4.IsWhole) {arg5 : Memref sig .tc .vmem S1x2x1408x256 .i8} (harg5 : arg5.IsWhole)
    {arg6 : Memref sig .tc .vmem S1x16x128 .i32} (harg6 : arg6.IsWhole) {arg7 : Memref sig .tc .vmem S1x1x1408 .f32} (harg7 : arg7.IsWhole)
    (x0 : Vec Ideal S1536x2048 .bf16) (x1 : Vec Ideal S1x2x1408x256 .i8) (x2 : Vec Ideal S1x16x128 .i32) (x3 : Vec Ideal S1x1x1408 .f32) :
    visitOf arg4 arg5 arg6 arg7 (harg4.unread x0) (harg5.unread x1) (harg6.unread x2) (harg7.unread x3) = visitVal x0 x1 x2 x3 := by
  unfold visitOf
  rw [harg4.read_unread, harg5.read_unread, harg6.read_unread, harg7.read_unread]

set_option maxHeartbeats 1000000 in
/-- The body at the first grid point, when it visits a group: the output ends as the group's visit of zeros. -/
theorem visitFirstV {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec Ideal S1536x2048 .bf16) (x1 : Vec Ideal S1x2x1408x256 .i8) (x2 : Vec Ideal S1x16x128 .i32) (x3 : Vec Ideal S1x1x1408 .f32) (xt0 : TbBuf0 (F := Ideal) c tbM0_0) (xt1 : TbBuf0 (F := Ideal) c tbM0_1) (xt2 : TbBuf0 (F := Ideal) c tbM0_2)
    (hT : HostFacts.Tables gs xt0 xt1 xt2) (h1 : k0_cond1 i = 1#1) (h2 : k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (visited gs (expAt gs i) x0 x1 x2 x3 (k0_pay1 (F := Ideal))) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := Ideal)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : visitFirstV.sl.r c xt2 = BitVec.ofNat 32 (HostFacts.used gs) := by
      unfold visitFirstV.sl.r
      exact (read_tb2 c xt2 ![0] _ _ 0 rfl).trans hT.used
    have h2' := h2
    rw [← hr] at h2'
    sl_exec_parts
    obtain ⟨e, hE⟩ : ∃ e : Fin 60, e = expAt gs i := ⟨_, rfl⟩
    have he := e.isLt
    have hr2 : visitFirstV.sl.r_2 c i xt0 = BitVec.ofNat 32 e.val := by
      unfold visitFirstV.sl.r_2
      rw [hE]
      exact (read_tb0 c xt0 _ _ _ ⟨(i 0).val, coord_lt i⟩ (off2_eq i)).trans (hT.expert _)
    have hc1 : k0_chk1 i (visitFirstV.sl.r c xt2) (visitFirstV.sl.r_2 c i xt0) := chk1_of hr2 he
    sl_exec
    have hr3 : visitFirstV.sl.r_3 c i xt0 xt1 xt2 h2' hc1 = BitVec.ofNat 32 (HostFacts.off gs e.val) := by
      unfold visitFirstV.sl.r_3
      exact (read_tb1 c xt1 _ _ _ ⟨e.val, by omega⟩ (off3_eq hr2 he)).trans (hT.off ⟨e.val, by omega⟩)
    have hr4 : visitFirstV.sl.r_4 c i xt0 xt1 xt2 h2' hc1 = BitVec.ofNat 32 (HostFacts.off gs (e.val + 1)) := by
      unfold visitFirstV.sl.r_4
      exact (read_tb1 c xt1 _ _ _ ⟨e.val + 1, by omega⟩ (off4_eq hr2 he)).trans (hT.off ⟨e.val + 1, by omega⟩)
    have hlo := HostFacts.off_mono (gs := gs) (Nat.le_succ e.val)
    have hhi := HostFacts.off_le hs (e.val + 1)
    have hc2 : k0_chk2 i (visitFirstV.sl.r c xt2) (visitFirstV.sl.r_3 c i xt0 xt1 xt2 h2' hc1) (visitFirstV.sl.r_4 c i xt0 xt1 xt2 h2' hc1) :=
      chk2_of hr3 hr4 hlo (by omega)
    sl_exec
    sl_for (fun (n : ℕ) (_ : PUnit) => tilesInv c arg4 arg5 arg6 arg7 arg8 arg9 (harg4.unread x0) (harg5.unread x1) (harg6.unread x2) (harg7.unread x3) (k0_pay1 (F := Ideal)) (HostFacts.off gs e.val) (HostFacts.off gs (e.val + 1)) n) $$ [H0 H1 H2 H3 H4 HS0]
    case region =>
      intro k _
      exact tile_run E c i _ _ _ _ _ _ arg4 harg4 arg5 harg5 arg6 harg6 arg7 harg7 arg8 harg8 arg9 harg9 _ _ _ _ hc2 _ _ _ _ _ _ _ _ _ hr3 hr4 hlo (by omega) rfl _ k
    · unfold tilesInv
      isplitl [H0]; · iexact H0
      isplitl [H1]; · iexact H1
      isplitl [H2]; · iexact H2
      isplitl [H3]; · iexact H3
      isplitl [H4]
      · iexists _; isplitr; swap; · iexact H4
        ipureintro; exact afterTiles_cleared _ _ _ arg8 _
      · iexists _; iexact HS0
    iintro %_ HI
    unfold tilesInv
    icases HI with ⟨H0, H1, H2, H3, ⟨%f8, %h8, H4⟩, %f9, HS0⟩
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; swap; · iexact H4
      ipureintro
      rw [hE] at h8
      exact visited_of (unread_visitOf harg4 harg5 harg6 harg7 x0 x1 x2 x3 ▸ h8)
    isplitl [HS0]
    · iexists _, _; isplitr; swap; · iexact HS0
      ipureintro; rfl
    isplitl [HT0]; · iexact HT0
    isplitl [HT1]; · iexact HT1
    iexact HT2

set_option maxHeartbeats 1000000 in
/-- The body at a later grid point that visits a group: the output ends as the visit of what it held. -/
theorem visitLaterV {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec Ideal S1536x2048 .bf16) (x1 : Vec Ideal S1x2x1408x256 .i8) (x2 : Vec Ideal S1x16x128 .i32) (x3 : Vec Ideal S1x1x1408 .f32) (xt0 : TbBuf0 (F := Ideal) c tbM0_0) (xt1 : TbBuf0 (F := Ideal) c tbM0_1) (d4 : Vec Ideal S1536x1408 .bf16) (xt2 : TbBuf0 (F := Ideal) c tbM0_2)
    (hT : HostFacts.Tables gs xt0 xt1 xt2) (h1 : ¬ k0_cond1 i = 1#1) (h2 : k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare d4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (visited gs (expAt gs i) x0 x1 x2 x3 (d4)) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := Ideal)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : visitLaterV.sl.r c xt2 = BitVec.ofNat 32 (HostFacts.used gs) := by
      unfold visitLaterV.sl.r
      exact (read_tb2 c xt2 ![0] _ _ 0 rfl).trans hT.used
    have h2' := h2
    rw [← hr] at h2'
    sl_exec_parts
    obtain ⟨e, hE⟩ : ∃ e : Fin 60, e = expAt gs i := ⟨_, rfl⟩
    have he := e.isLt
    have hr2 : visitLaterV.sl.r_2 c i xt0 = BitVec.ofNat 32 e.val := by
      unfold visitLaterV.sl.r_2
      rw [hE]
      exact (read_tb0 c xt0 _ _ _ ⟨(i 0).val, coord_lt i⟩ (off2_eq i)).trans (hT.expert _)
    have hc1 : k0_chk1 i (visitLaterV.sl.r c xt2) (visitLaterV.sl.r_2 c i xt0) := chk1_of hr2 he
    sl_exec
    have hr3 : visitLaterV.sl.r_3 c i xt0 xt1 xt2 h2' hc1 = BitVec.ofNat 32 (HostFacts.off gs e.val) := by
      unfold visitLaterV.sl.r_3
      exact (read_tb1 c xt1 _ _ _ ⟨e.val, by omega⟩ (off3_eq hr2 he)).trans (hT.off ⟨e.val, by omega⟩)
    have hr4 : visitLaterV.sl.r_4 c i xt0 xt1 xt2 h2' hc1 = BitVec.ofNat 32 (HostFacts.off gs (e.val + 1)) := by
      unfold visitLaterV.sl.r_4
      exact (read_tb1 c xt1 _ _ _ ⟨e.val + 1, by omega⟩ (off4_eq hr2 he)).trans (hT.off ⟨e.val + 1, by omega⟩)
    have hlo := HostFacts.off_mono (gs := gs) (Nat.le_succ e.val)
    have hhi := HostFacts.off_le hs (e.val + 1)
    have hc2 : k0_chk2 i (visitLaterV.sl.r c xt2) (visitLaterV.sl.r_3 c i xt0 xt1 xt2 h2' hc1) (visitLaterV.sl.r_4 c i xt0 xt1 xt2 h2' hc1) :=
      chk2_of hr3 hr4 hlo (by omega)
    sl_exec
    sl_for (fun (n : ℕ) (_ : PUnit) => tilesInv c arg4 arg5 arg6 arg7 arg8 arg9 (harg4.unread x0) (harg5.unread x1) (harg6.unread x2) (harg7.unread x3) d4 (HostFacts.off gs e.val) (HostFacts.off gs (e.val + 1)) n) $$ [H0 H1 H2 H3 H4 HS0]
    case region =>
      intro k _
      exact tile_run E c i _ _ _ _ _ _ arg4 harg4 arg5 harg5 arg6 harg6 arg7 harg7 arg8 harg8 arg9 harg9 _ _ _ _ hc2 _ _ _ _ _ _ _ _ _ hr3 hr4 hlo (by omega) rfl _ k
    · unfold tilesInv
      isplitl [H0]; · iexact H0
      isplitl [H1]; · iexact H1
      isplitl [H2]; · iexact H2
      isplitl [H3]; · iexact H3
      isplitl [H4]
      · iexists _; isplitr; swap; · iexact H4
        ipureintro; exact hf4 ▸ afterTiles_zero _ _ _ _
      · iexists _; iexact HS0
    iintro %_ HI
    unfold tilesInv
    icases HI with ⟨H0, H1, H2, H3, ⟨%f8, %h8, H4⟩, %f9, HS0⟩
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; swap; · iexact H4
      ipureintro
      rw [hE] at h8
      exact visited_of (unread_visitOf harg4 harg5 harg6 harg7 x0 x1 x2 x3 ▸ h8)
    isplitl [HS0]
    · iexists _, _; isplitr; swap; · iexact HS0
      ipureintro; rfl
    isplitl [HT0]; · iexact HT0
    isplitl [HT1]; · iexact HT1
    iexact HT2

set_option maxHeartbeats 1000000 in
/-- The body at the first grid point, when no group has a row: the output ends as zeros. -/
theorem idleFirstV {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec Ideal S1536x2048 .bf16) (x1 : Vec Ideal S1x2x1408x256 .i8) (x2 : Vec Ideal S1x16x128 .i32) (x3 : Vec Ideal S1x1x1408 .f32) (xt0 : TbBuf0 (F := Ideal) c tbM0_0) (xt1 : TbBuf0 (F := Ideal) c tbM0_1) (xt2 : TbBuf0 (F := Ideal) c tbM0_2)
    (hT : HostFacts.Tables gs xt0 xt1 xt2) (h1 : k0_cond1 i = 1#1) (h2 : ¬ k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare (k0_pay1 (F := Ideal)) ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := Ideal)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : idleFirstV.sl.r c xt2 = BitVec.ofNat 32 (HostFacts.used gs) := by
      unfold idleFirstV.sl.r
      exact (read_tb2 c xt2 ![0] _ _ 0 rfl).trans hT.used
    have h2' := h2
    rw [← hr] at h2'
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; swap; · iexact H4
      ipureintro; exact read_cleared arg8 _
    isplitl [HS0]
    · iexists _, _; isplitr; swap; · iexact HS0
      ipureintro; rfl
    isplitl [HT0]; · iexact HT0
    isplitl [HT1]; · iexact HT1
    iexact HT2

set_option maxHeartbeats 1000000 in
/-- The body at a later grid point past the last group: the output ends as it was. -/
theorem idleLaterV {gs : HostFacts.Sizes} (hs : HostFacts.Small gs) (c : Dev nD) (i : grid0.Coords) (arg4 : Memref sig .tc .vmem S1536x2048 .bf16) (harg4 : arg4.IsWhole) (arg5 : Memref sig .tc .vmem S1x2x1408x256 .i8) (harg5 : arg5.IsWhole) (arg6 : Memref sig .tc .vmem S1x16x128 .i32) (harg6 : arg6.IsWhole) (arg7 : Memref sig .tc .vmem S1x1x1408 .f32) (harg7 : arg7.IsWhole) (arg8 : Memref sig .tc .vmem S1536x1408 .bf16) (harg8 : arg8.IsWhole) (arg9 : Memref sig .tc .vmem S128x2048 .bf16) (harg9 : arg9.IsWhole)
    (x0 : Vec Ideal S1536x2048 .bf16) (x1 : Vec Ideal S1x2x1408x256 .i8) (x2 : Vec Ideal S1x16x128 .i32) (x3 : Vec Ideal S1x1x1408 .f32) (xt0 : TbBuf0 (F := Ideal) c tbM0_0) (xt1 : TbBuf0 (F := Ideal) c tbM0_1) (d4 : Vec Ideal S1536x1408 .bf16) (xt2 : TbBuf0 (F := Ideal) c tbM0_2)
    (hT : HostFacts.Tables gs xt0 xt1 xt2) (h1 : ¬ k0_cond1 i = 1#1) (h2 : ¬ k0_cond2 i (BitVec.ofNat 32 (HostFacts.used gs)) = 1#1) :

      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare d4 ∗ (∃ d, owns (c : Thread nD τ) arg9 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare d4 ∗ (∃ d, owns (c : Thread nD τ) arg9 fullShare d) ∗ tbPt0 c tbM0_0 xt0 ∗ tbPt0 c tbM0_1 xt1 ∗ tbPt0 c tbM0_2 xt2) -∗ K ⟨⟩))
          ⊢ wp frame (wpE (defs₀ (F := Ideal)) Variants.none c none) E (cc0_aqlm_moe i tbM0_0 htbM0_0 tbM0_1 htbM0_1 tbM0_2 htbM0_2 arg4 harg4 arg5 harg5 arg6 harg6 arg7 harg7 arg8 harg8 arg9 harg9) K := by
    intro E K
    simp only [cc0_aqlm_moe_eq_skeleton]; unfold cc0_aqlm_moe_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, HT0, HT1, HT2, Hk⟩
    obtain rfl := harg4.eq_unread hf0; obtain rfl := harg5.eq_unread hf1; obtain rfl := harg6.eq_unread hf2; obtain rfl := harg7.eq_unread hf3
    sl_exec
    have hr : idleLaterV.sl.r c xt2 = BitVec.ofNat 32 (HostFacts.used gs) := by
      unfold idleLaterV.sl.r
      exact (read_tb2 c xt2 ![0] _ _ 0 rfl).trans hT.used
    have h2' := h2
    rw [← hr] at h2'
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; swap; · iexact H4
      ipureintro; exact hf4
    isplitl [HS0]
    · iexists _, _; isplitr; swap; · iexact HS0
      ipureintro; rfl
    isplitl [HT0]; · iexact HT0
    isplitl [HT1]; · iexact HT1
    iexact HT2

end Cert.Proof.KernelIdeal

end
-- ==== Proof.KernelIdealValue.lean ====
/- The idealized kernel run with values: the output ends as the visits of all groups that have rows, one after another, over
   zeros. -/
module

public import proofs.«01_k».proof.Proof.Gen.KernelIdeal.Launch
public import proofs.«01_k».proof.Proof.Gen.KernelIdeal.Skeleton
public import proofs.«01_k».proof.Proof.KernelIdealFrame
public import proofs.«01_k».proof.Proof.KernelIdealVisit
public import Idealize.ShloMosaic.Lib.Pipeline.Value
public import Idealize.ShloMosaic.Lib.Pipeline.TableIdle
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Proof.KernelIdeal.Val

open Cert.KernelIdeal Cert.KernelIdeal.Gen Cert.Proof.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Routing
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The output after the first `n` grid points: zeros, then the visit of every point's group that has rows. -/
def outUpTo (hO : Ok m) (c : Dev nD) : ℕ → Vec Ideal S1536x1408 .bf16
  | 0 => k0_pay1 (F := Ideal)
  | n + 1 =>
    if h : n < (cfgM m hO).N ∧ n < HostFacts.used (gsOf m 0) then
      visited (gsOf m 0) (expAt (gsOf m 0) (grid0.coords ⟨n, h.1⟩)) (iblk m hO c 0 ⟨n, h.1⟩) (iblk m hO c 1 ⟨n, h.1⟩) (iblk m hO c 2 ⟨n, h.1⟩)
        (iblk m hO c 3 ⟨n, h.1⟩) (outUpTo hO c n)
    else outUpTo hO c n

/-- A point below the number of groups that have rows changes the output by its visit. -/
theorem outUpTo_visit (hO : Ok m) (c : Dev nD) (t : Fin (cfgM m hO).N) (h : t.val < HostFacts.used (gsOf m 0)) :
    outUpTo m hO c (t.val + 1) = visited (gsOf m 0) (expAt (gsOf m 0) (grid0.coords t)) (iblk m hO c 0 t) (iblk m hO c 1 t) (iblk m hO c 2 t)
        (iblk m hO c 3 t) (outUpTo m hO c t.val) := dif_pos ⟨t.isLt, h⟩

/-- A point past the groups that have rows leaves the output. -/
theorem outUpTo_idle (hO : Ok m) (c : Dev nD) (t : ℕ) (h : ¬ t < HostFacts.used (gsOf m 0)) :
    outUpTo m hO c (t + 1) = outUpTo m hO c t := dif_neg fun hh => h hh.2

/-- The proof data of the pipeline: the inputs' buffers at their blocks, the output's at what the points so far left. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outUpTo m hO c (t.val + 1)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- After a point, the buffer of window 1 holds what the proof data say. -/
theorem after0_1 (hO : Ok m) (c : Dev nD) (t : Fin (cfgM m hO).N) : (dats m hO 0 c).after 1 t = iblk m hO c 1 t := by dsimp only [dats]; try rfl
/-- After a point, the buffer of window 2 holds what the proof data say. -/
theorem after0_2 (hO : Ok m) (c : Dev nD) (t : Fin (cfgM m hO).N) : (dats m hO 0 c).after 2 t = iblk m hO c 2 t := by dsimp only [dats]; try rfl
/-- After a point, the buffer of window 3 holds what the proof data say. -/
theorem after0_3 (hO : Ok m) (c : Dev nD) (t : Fin (cfgM m hO).N) : (dats m hO 0 c).after 3 t = iblk m hO c 3 t := by dsimp only [dats]; try rfl

/-- After a point, the buffer of window 4 holds what the proof data say. -/
theorem after0_4 (hO : Ok m) (c : Dev nD) (t : Fin (cfgM m hO).N) : (dats m hO 0 c).after 4 t = outUpTo m hO c (t.val + 1) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before a point, the buffer of window 1 holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before a point, the buffer of window 2 holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Before a point, the buffer of window 3 holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- The grid's coordinate at a point is the point. -/
theorem coord_val (t : Fin grid0.N) : ((grid0.coords t) 0).val = t.val := by
  have h : t.val < 60 := t.isLt
  show t.val / 1 % 60 = t.val
  omega

/-- The first condition of the body holds at the first point alone. -/
theorem first_iff (t : Fin grid0.N) : k0_cond1 (grid0.coords t) = 1#1 ↔ t.val = 0 := (cond1_iff _).trans (iff_of_eq (congrArg (· = 0) (coord_val t)))

/-- The second condition of the body holds at the points below the number of groups that have rows. -/
theorem used_iff (hs : HostFacts.Small (gsOf m 0)) (t : Fin grid0.N) :
    k0_cond2 (grid0.coords t) (BitVec.ofNat 32 (HostFacts.used (gsOf m 0))) = 1#1 ↔ t.val < HostFacts.used (gsOf m 0) :=
  (cond2_iff (pf := tbl m) (tables m 0 hs) (grid0.coords t) _ rfl).trans (iff_of_eq (congrArg (· < HostFacts.used (gsOf m 0)) (coord_val t)))

/-- The table's word by which the pipeline tells where the output is not stored. -/
theorem used_atD (hs : HostFacts.Small (gsOf m 0)) : (tbl m).atD 2 ![0] = BitVec.ofNat 32 (HostFacts.used (gsOf m 0)) := by
  refine Eq.trans ?_ (tables m 0 hs).used
  show dite _ _ _ = _
  rw [dif_pos (by decide)]
  refine congrArg (tbl m 2) ?_
  funext a
  match a with
  | ⟨0, _⟩ => rfl

/-- Where the output is not stored: past the first point and past the last group. -/
theorem idle_of (hO : Ok m) (hs : HostFacts.Small (gsOf m 0)) (t : Fin (cfgM m hO).N)
    (h : (cfgM m hO).idle 4 ((cfgM m hO).grid.coords t) = true) : t.val ≠ 0 ∧ ¬ t.val < HostFacts.used (gsOf m 0) := by
  have h' : (!(k0_cond1 (grid0.coords t) == 1#1) && !(k0_cond2 (grid0.coords t) ((tbl m).atD 2 ![0]) == 1#1)) = true := h
  rw [used_atD m hs, Bool.and_eq_true, Bool.not_eq_true', Bool.not_eq_true', beq_eq_false_iff_ne, beq_eq_false_iff_ne] at h'
  exact ⟨fun hh => h'.1 ((first_iff t).mpr hh), fun hh => h'.2 ((used_iff m hs t).mpr hh)⟩

/-- The first point stores the output and no point but the last writes it back. -/
theorem fresh_pos (hO : Ok m) (hs : HostFacts.Small (gsOf m 0)) : ∀ n, n + 1 < 60 → (cfgM m hO).fresh 4 (n + 1) = false
  | n, hn => by
    have hN : n < (cfgM m hO).N := by show n < 60; omega
    rw [Pipeline.Cfg.fresh_succ (cfgM m hO) 4 n hN]
    have hf : ((cfgM m hO).win 4).flush ⟨n, hN⟩ = false := by
      rw [Bool.eq_false_iff]
      intro hh
      have h59 : n % 60 = 59 := (flush0_4 (adm m hO) _).mp hh
      omega
    rw [hf, Bool.false_or]
    match n, hn, hN with
    | 0, _, hN =>
      have hi : (cfgM m hO).idle 4 ((cfgM m hO).grid.coords ⟨0, hN⟩) = false := by
        rw [Bool.eq_false_iff]
        exact fun hh => (idle_of m hO hs _ hh).1 rfl
      rw [hi, Bool.false_and]
    | k + 1, hn, _ => rw [fresh_pos hO hs k (by omega), Bool.and_false]

/-- The output's staging buffer is never fetched into and written back at the end only: after the first point it holds what the
    points before left. -/
theorem before0_4 (hO : Ok m) (hs : HostFacts.Small (gsOf m 0)) (c : Dev nD) (t : Fin (cfgM m hO).N) (ht : t.val ≠ 0) (d) :
    (dats m hO 0 c).before 4 t d = outUpTo m hO c t.val := by
  have hlt : t.val < 60 := t.isLt
  rw [Dat.before_out_traj (dats m hO 0 c) 4 rfl (fun _ _ => rfl) (fun t ht hi _ => by
    rw [after0_4, after0_4, outUpTo_idle m hO c t.val (idle_of m hO hs t hi).2]
    exact congrArg (outUpTo m hO c) (show t.val = t.val - 1 + 1 by omega)) t.val t rfl d]
  have hf : (cfgM m hO).fresh 4 t.val = false := by
    have := fresh_pos m hO hs (t.val - 1) (by omega)
    rwa [show t.val - 1 + 1 = t.val by omega] at this
  rw [hf, if_neg Bool.false_ne_true, after0_4]
  exact congrArg (outUpTo m hO c) (show t.val - 1 + 1 = t.val by omega)

/-- What the body leaves in the output's buffer, as the library asks for it: at a point that does not store it, what it held. -/
theorem leaves_4 (hO : Ok m) (hs : HostFacts.Small (gsOf m 0)) (c : Dev nD) (t : Fin (cfgM m hO).N) :
    (owns (c : Thread nD τ) (ms0_4 m hO t) fullShare ((dats m hO 0 c).after 4 t) : sProp 𝕄)
      ⊢ (match (cfgM m hO).idle 4 ((cfgM m hO).grid.coords t) with
        | true =>
          match ((cfgM m hO).win 4).flush t with
          | false => iprop(∃ d, owns (c : Thread nD τ) (ms0_4 m hO t) fullShare ((dats m hO 0 c).before 4 t d))
          | true => owns (c : Thread nD τ) (ms0_4 m hO t) fullShare ((dats m hO 0 c).after 4 t)
        | false => owns (c : Thread nD τ) (ms0_4 m hO t) fullShare ((dats m hO 0 c).after 4 t)) := by
  cases hi : (cfgM m hO).idle 4 ((cfgM m hO).grid.coords t)
  · exact .rfl
  · cases hfl : ((cfgM m hO).win 4).flush t
    · have hh := idle_of m hO hs t hi
      have e := ((after0_4 m hO c t).trans (outUpTo_idle m hO c t.val hh.2)).trans (before0_4 m hO hs c t hh.1 (outUpTo m hO c t.val)).symm
      refine (Entails.of_eq (congrArg (fun X => (owns (c : Thread nD τ) (ms0_4 m hO t) fullShare X : sProp 𝕄)) e)).trans ?_
      iintro H
      iexists (outUpTo m hO c t.val)
      iexact H
    · exact .rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' memrefs hold their blocks (`before0_W`); so the
    run applies; the invariant hands the body its scratch buffers at some contents (and the generator register) and takes them back at some contents (`PhiA_eq`); the core owes nothing throughout. -/
theorem sound_body (hO : Ok m) (hs : HostFacts.Small (gsOf m 0)) (c : Dev nD) (t : Fin (cfgM m hO).N) :
    bodyPre m hO c t ⊢ wp Idealize.ShloMosaic.frame (wpE (defs₀ (F := Ideal)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  iintro ⟨⟨⟨HS0, Hg⟩, ⟨HT0, HT1, HT2⟩⟩, Ho, ⟨%d0, H0⟩, ⟨%d1, H1⟩, ⟨%d2, H2⟩, ⟨%d3, H3⟩, ⟨%d4, H4⟩⟩
  have hc1 := first_iff t
  have hc2 := used_iff m hs t
  by_cases h1 : k0_cond1 (grid0.coords t) = 1#1 <;> by_cases h2 : k0_cond2 (grid0.coords t) (BitVec.ofNat 32 (HostFacts.used (gsOf m 0))) = 1#1
  · have ht : outUpTo m hO c t.val = k0_pay1 (F := Ideal) := by rw [hc1.mp h1]; rfl
    rw [outUpTo_visit m hO c t (hc2.mp h2)]
    rw [ht]
    iapply (visitFirstV hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

  · have ht : outUpTo m hO c t.val = k0_pay1 (F := Ideal) := by rw [hc1.mp h1]; rfl
    rw [outUpTo_idle m hO c t.val (fun hh => h2 (hc2.mpr hh))]
    rw [ht]
    iapply (idleFirstV hs c (grid0.coords t) _ _ _ _ _ _ _ _ _ _ _ _ (iblk m hO c 0 t) (iblk m hO c 1 t) (iblk m hO c 2 t) (iblk m hO c 3 t) (tbl m 0) (tbl m 1) (tbl m 2) (tables m 0 hs) h1 h2 Set.univ _)
    isplitl [H0]; · iexact H0
    isplitl [H1]; · iexact H1
    isplitl [H2]; · iexact H2
    isplitl [H3]; · iexact H3
    isplitl [H4]; · iexists _; iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

  · rw [before0_4 m hO hs c t (fun hh => h1 (hc1.mpr hh)) d4]
    rw [outUpTo_visit m hO c t (hc2.mp h2)]
    iapply (visitLaterV hs c (grid0.coords t) _ _ _ _ _ _ _ _ _ _ _ _ (iblk m hO c 0 t) (iblk m hO c 1 t) (iblk m hO c 2 t) (iblk m hO c 3 t) (tbl m 0) (tbl m 1) (outUpTo m hO c t.val) (tbl m 2) (tables m 0 hs) h1 h2 Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

  · rw [before0_4 m hO hs c t (fun hh => h1 (hc1.mpr hh)) d4]
    rw [outUpTo_idle m hO c t.val (fun hh => h2 (hc2.mpr hh))]
    iapply (idleLaterV hs c (grid0.coords t) _ _ _ _ _ _ _ _ _ _ _ _ (iblk m hO c 0 t) (iblk m hO c 1 t) (iblk m hO c 2 t) (iblk m hO c 3 t) (tbl m 0) (tbl m 1) (outUpTo m hO c t.val) (tbl m 2) (tables m 0 hs) h1 h2 Set.univ _)
    isplitl [H0]; · iexact H0
    isplitl [H1]; · iexact H1
    isplitl [H2]; · iexact H2
    isplitl [H3]; · iexact H3
    isplitl [H4]; · iexact H4
    isplitl [HS0]; · iexact HS0
    isplitl [HT0]; · iexact HT0
    isplitl [HT1]; · iexact HT1
    isplitl [HT2]; · iexact HT2
    iintro ⟨H0, H1, H2, H3, H4, HS0, HT0, HT1, HT2⟩
    isplitl [HS0 Hg HT0 HT1 HT2]
    · isplitl [HS0 Hg]
      · isplitl [HS0]
        · iexact HS0
        iexact Hg
      isplitl [HT0]; · iexact HT0
      isplitl [HT1]; · iexact HT1
      iexact HT2
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point. -/
theorem body_obligation (hO : Ok m) (hs : HostFacts.Small (gsOf m 0)) (c : Dev nD) : BodyObligation (dats m hO 0 c) (defs₀ (F := Ideal)) Variants.none () Set.univ := fun t => by
  rw [bigSep_W0, bigSep_W0, defs₀_row m hO]
  refine triple_restated (sound_body m hO hs c t) rfl .rfl fun _ => ?_
  unfold bodyPost
  exact sep_mono .rfl (sep_mono .rfl (sep_mono .rfl (sep_mono .rfl (sep_mono .rfl (sep_mono .rfl (leaves_4 m hO hs c t))))))

set_option backward.isDefEq.respectTransparency.types false in
/-- The run: every array of the pipeline ends as the proof data says. -/
theorem run_main (hO : Ok m) (hs : HostFacts.Small (gsOf m 0)) : θ_run defs (onTc (τ := τ) (main (F := Ideal))) (s₀ m ρ)
    (Pipeline.FramePost (Pipeline.pin pcfgs fun _ => adm m hO) (dats m hO) 0 (V m)) :=
  Pipeline.θ_run_frameP pcfgs (fun _ => adm m hO) (dats m hO) (0 : Fin 1) launch0 defs₀ Variants.none m ρ main
    (hbody := fun c => (body_obligation m hO hs c).loose) (hshare := fun c => (dats m hO 0 c).share_full fun _ => rfl)
    (howed := fun _ _ => rfl) (V := V m) (hmain := hmain m Variants.none) (hA := A_eq m hO) (hpf := V_pre m) (hΦ := fun _ _ => rfl)

/-- The output's block at the last point is the whole array. -/
theorem flushed_out (hO : Ok m) (c : Dev nD) (t : Fin (cfgM m hO).N) (hf : ((cfgM m hO).win 4).flush t = true) :
    (dats m hO 0 c).flushed 4 t = (((cfgM m hO).win 4).blk t).view.read (Elt Ideal) (outUpTo m hO c 60 : Buf (Elt Ideal) ((c : Thread nD τ).loc main_v32)) := by
  have h59 : t.val % 60 = 59 := (flush0_4 (adm m hO) t).mp hf
  have hlt : t.val < 60 := t.isLt
  have ht : t.val + 1 = 60 := by omega
  show ((cfgM m hO).win 4).cut ((cfgM m hO).grid.coords t) ((dats m hO 0 c).after 4 t) = _
  rw [after0_4, ht]
  generalize outUpTo m hO c 60 = y
  refine funext fun (i : S1536x1408.Idx) => ?_
  show y _ = y _
  refine congrArg y ?_
  funext a
  match a with
  | ⟨0, _⟩ => exact Fin.ext (by show (i 0).val = 0 * 1536 + 1 * (i 0).val; omega)
  | ⟨1, _⟩ => exact Fin.ext (by show (i 1).val = 0 * 1408 + 1 * (i 1).val; omega)

/-- Every place of the output array is in the block written back at the last point. -/
theorem cover_out (hO : Ok m) (i : S1536x1408.Idx) (t : Fin (cfgM m hO).N) : i ∈ (((cfgM m hO).win 4).blk t).view.set := by
  show i ∈ ((View.whole main_v32).slice (((cfgM m hO).win 4).rect t)).set
  refine Eq.mpr (congrArg (fun S => i ∈ S) (View.set_slice_whole main_v32 (((cfgM m hO).win 4).rect t))) ?_
  refine Rect.mem_set_unit.mpr fun a => ?_
  have h0 : (i 0 : ℕ) < 1536 := (i 0).isLt
  have h1 : (i 1 : ℕ) < 1408 := (i 1).isLt
  match a with
  | ⟨0, _⟩ => show 0 * 1536 ≤ (i 0 : ℕ) ∧ (i 0 : ℕ) < 0 * 1536 + 1536; omega
  | ⟨1, _⟩ => show 0 * 1408 ≤ (i 1 : ℕ) ∧ (i 1 : ℕ) < 0 * 1408 + 1408; omega

/-- The output array ends as all the points leave it. -/
theorem final_out (hO : Ok m) (c : Dev nD) : (dats m hO 0 c).arrAt 4 (cfgM m hO).N = (outUpTo m hO c 60 : Buf (Elt Ideal) ((c : Thread nD τ).loc main_v32)) :=
  (dats m hO 0 c).arrAt_eq_of_cover 4 (outUpTo m hO c 60 : Buf (Elt Ideal) ((c : Thread nD τ).loc main_v32)) (flushed_out m hO c)
    (fun i => ⟨⟨59, by show 59 < 60; omega⟩, (flush0_4 (adm m hO) _).mpr (by show 59 % 60 = 59; rfl), cover_out m hO i _⟩)

/-- The run, read: the result is what all the points leave, the arguments are unchanged. -/
theorem run (hO : Ok m) (hs : HostFacts.Small (gsOf m 0)) : θ_run defs (onTc (τ := τ) (main (F := Ideal))) ⟨m, fun _ => 0, ρ⟩ (fun r => ∀ c : Dev nD,
      r.2.mem ((c.tc : Thread nD τ).loc main_v32) = (outUpTo m hO c 60 : Buf (Elt Ideal) ((c : Thread nD τ).loc main_v32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 4).trans (final_out m hO c), h.2 c⟩)
    (θ_run_and (run_main m ρ hO hs) (unchanged m ρ hO hs))

end Cert.Proof.KernelIdeal.Val

end
-- ==== Proof.MoeSpec.lean ====
/- What both programs compute, as plain sums over the extended reals: the value of one group at one row and one feature. -/
module

public import proofs.«01_k».proof.Proof.Gen.KernelIdeal.Skeleton
public import Idealize.ShloMosaic.PureOps.Ideal
public import Idealize.ShloMosaic.Lib.ValueIdx

@[expose] public section

set_option maxRecDepth 16384

noncomputable section

namespace Cert.Proof.Moe

open Cert.KernelIdeal
open Idealize.ShloMosaic

/-- The decoded weight of group `e` at feature `f` and input column `k`: the sum, over the two codebooks, of element `k mod 8` of
    the entry that the code of column group `k div 8` selects. -/
def weight (codes : S60x2x1408x256.Idx → BitVec 8) (cbs : S60x2x256x8.Idx → BitVec 16) (e : Fin 60) (f : Fin 1408) (k : Fin 2048) : EReal :=
  Ideal.ofBits .bf16 (cbs (ValueIdx.ix4 e 0 ⟨(codes (ValueIdx.ix4 e 0 f ⟨k.val / 8, by omega⟩)).toNat, (codes _).isLt⟩ ⟨k.val % 8, by omega⟩))
    + Ideal.ofBits .bf16 (cbs (ValueIdx.ix4 e 1 ⟨(codes (ValueIdx.ix4 e 1 f ⟨k.val / 8, by omega⟩)).toNat, (codes _).isLt⟩ ⟨k.val % 8, by omega⟩))

/-- What group `e` gives at row `r` and feature `f`: the row times the decoded weights, times the feature's scale. -/
def rowVal (x : S1536x2048.Idx → EReal) (codes : S60x2x1408x256.Idx → BitVec 8) (cbs : S60x2x256x8.Idx → BitVec 16)
    (sc : S60x1408.Idx → EReal) (e : Fin 60) (r : Fin 1536) (f : Fin 1408) : EReal :=
  (∑ k : Fin 2048, x (ValueIdx.ix2 r k) * weight codes cbs e f k) * sc (ValueIdx.ix2 e f)

/-- The column of the permuted activations that holds input column `k`. -/
def permCol : Fin 2048 ≃ Fin 2048 where
  toFun k := ⟨k.val % 8 * 256 + k.val / 8, by omega⟩
  invFun c := ⟨c.val % 256 * 8 + c.val / 256, by omega⟩
  left_inv k := Fin.ext (by show (k.val % 8 * 256 + k.val / 8) % 256 * 8 + (k.val % 8 * 256 + k.val / 8) / 256 = k.val; omega)
  right_inv c := Fin.ext (by show (c.val % 256 * 8 + c.val / 256) % 8 * 256 + (c.val % 256 * 8 + c.val / 256) / 8 = c.val; omega)

end Cert.Proof.Moe

end
-- ==== Proof.KernelIdealInputs.lean ====
/- The arrays the idealized kernel's windows read, as the host lines make them of the arguments, and each window's block at a point. -/
module

public import proofs.«01_k».proof.Proof.KernelIdealValue
public import proofs.«01_k».proof.Proof.MoeSpec
public import Idealize.ShloMosaic.Lib.Pointwise
public import Idealize.ShloMosaic.Lib.BitcastConvert

@[expose] public section

set_option maxRecDepth 16384

noncomputable section

namespace Cert.Proof.KernelIdeal.Val

open Cert.KernelIdeal Cert.KernelIdeal.Gen
open Idealize.ShloMosaic Idealize.ShloMosaic.TcCoe Idealize.ShloMosaic.Tactic

variable (m : (ℓ : Loc nD τ sig) → Buf (Elt Ideal) ℓ)

/-- The activations as launched. -/
abbrev xOf (c : Dev nD) : S1536x2048.Idx → EReal := m ((c : Thread nD τ).loc main_arg0)
/-- The codes as launched. -/
abbrev codesOf (c : Dev nD) : S60x2x1408x256.Idx → BitVec 8 := m ((c : Thread nD τ).loc main_arg2)
/-- The codebooks as launched. -/
abbrev cbsOf (c : Dev nD) : S60x2x256x8.Idx → BitVec 16 := m ((c : Thread nD τ).loc main_arg3)
/-- The scales as launched. -/
abbrev scOf (c : Dev nD) : S60x1408.Idx → EReal := m ((c : Thread nD τ).loc main_arg4)

section Reads
attribute [local irreducible] Host.reduceWindow Host.reduce Host.sort2 Host.gather concatenate broadcastInDim

/-- The permuted activations, as the host computes them. -/
theorem V_v2 (c : Dev nD) : V m c main_v2 = shapeCast S1536x2048 (transpose S1536x8x256 [0, 2, 1] (shapeCast S1536x256x8 (xOf m c) shapeCasts_S1536x2048_S1536x256x8)
    transposes_S1536x256x8_S1536x8x256_0_2_1) shapeCasts_S1536x8x256_S1536x2048 := by
  unfold V hostOps
  simp only [List.flatten_cons, List.flatten_nil, List.append_nil, List.cons_append, List.nil_append]
  after_results
  rfl

/-- The codes reach the kernel as launched. -/
theorem V_v25 (c : Dev nD) : V m c main_v25 = codesOf m c := by
  unfold V hostOps
  simp only [List.flatten_cons, List.flatten_nil, List.append_nil, List.cons_append, List.nil_append]
  after_results
  rfl

/-- The table of codebook words, as the host computes it. -/
theorem V_v29 (c : Dev nD) : V m c main_v29 = shapeCast S60x16x128 (transpose S60x2x4x2x128 [0, 1, 4, 2, 3]
    (Host.bitcastConvertWiden S60x2x2x128x4 32 (shapeCast S60x2x2x128x4x2 (cbsOf m c) shapeCasts_S60x2x256x8_S60x2x2x128x4x2) splits_S60x2x2x128x4_w32_S60x2x2x128x4x2_w16)
    transposes_S60x2x2x128x4_S60x2x4x2x128_0_1_4_2_3) shapeCasts_S60x2x4x2x128_S60x16x128 := by
  unfold V hostOps
  simp only [List.flatten_cons, List.flatten_nil, List.append_nil, List.cons_append, List.nil_append]
  after_results
  rfl

/-- The scales, as the host lays them out. -/
theorem V_v30 (c : Dev nD) : V m c main_v30 = shapeCast S60x1x1408 (scOf m c) shapeCasts_S60x1408_S60x1x1408 := by
  unfold V hostOps
  simp only [List.flatten_cons, List.flatten_nil, List.append_nil, List.cons_append, List.nil_append]
  after_results
  rfl

end Reads

/-- The permuted activations at row `r` and column `q`. -/
theorem v2_at (c : Dev nD) (r : Fin 1536) (q : Fin 2048) :
    (V m c main_v2 : S1536x2048.Idx → EReal) (ix2 r q) = xOf m c (ix2 r ⟨q.val % 256 * 8 + q.val / 256, by omega⟩) := by
  rw [V_v2]
  pointwise

/-- The codebook words of group `e`: at row `(cb·4 + p)·2 + h` and place `l`, the pair of elements `2p`, `2p + 1` of the codebook's entry `128·h + l`. -/
theorem v29_at (c : Dev nD) (e : Fin 60) (cb : Fin 2) (p : Fin 4) (h : Fin 2) (l : Fin 128) :
    (V m c main_v29 : S60x16x128.Idx → BitVec 32) (ix3 e ⟨(cb.val * 4 + p.val) * 2 + h.val, by omega⟩ l)
      = cbsOf m c (ix4 e cb ⟨128 * h.val + l.val, by omega⟩ ⟨2 * p.val + 1, by omega⟩) ++ cbsOf m c (ix4 e cb ⟨128 * h.val + l.val, by omega⟩ ⟨2 * p.val, by omega⟩) := by
  rw [V_v29]
  pointwise
  congr 1 <;> refine congrArg (cbsOf m c) (funext fun a => Fin.ext ?_)
  · match a with
    | ⟨0, _⟩ => rfl
    | ⟨1, _⟩ => rfl
    | ⟨2, _⟩ => show h.val * 128 + l.val = 128 * h.val + l.val; omega
    | ⟨3, _⟩ => show p.val * 2 + 1 = 2 * p.val + 1; omega
  · match a with
    | ⟨0, _⟩ => rfl
    | ⟨1, _⟩ => rfl
    | ⟨2, _⟩ => show h.val * 128 + l.val = 128 * h.val + l.val; omega
    | ⟨3, _⟩ => show p.val * 2 + 0 = 2 * p.val; omega

/-- The scales of group `e`. -/
theorem v30_at (c : Dev nD) (e : Fin 60) (f : Fin 1408) :
    (V m c main_v30 : S60x1x1408.Idx → EReal) (ix3 e 0 f) = scOf m c (ix2 e f) := by
  rw [V_v30]
  pointwise

variable (hO : Ok m)

/-- At every point the activations' block is the whole permuted array. -/
theorem iblk0_at (c : Dev nD) (t : Fin (cfgM m hO).N) (r : Fin 1536) (q : Fin 2048) :
    (iblk m hO c 0 t : S1536x2048.Idx → EReal) (ix2 r q) = (V m c main_v2 : S1536x2048.Idx → EReal) (ix2 r q) := by
  refine congrArg (V m c main_v2 : S1536x2048.Idx → EReal) (funext fun a => Fin.ext ?_)
  match a with
  | ⟨0, _⟩ => show 0 * 1536 + 1 * r.val = r.val; omega
  | ⟨1, _⟩ => show 0 * 2048 + 1 * q.val = q.val; omega

/-- At a point the codes' block is the codes of the point's group. -/
theorem iblk1_at (hs : HostFacts.Small (gsOf m 0)) (c : Dev nD) (t : Fin (cfgM m hO).N) (a : Fin 2) (b : Fin 1408) (g : Fin 256) :
    (iblk m hO c 1 t : S1x2x1408x256.Idx → BitVec 8) (ix4 0 a b g)
      = (V m c main_v25 : S60x2x1408x256.Idx → BitVec 8) (ix4 (expAt (gsOf m 0) (grid0.coords t)) a b g) := by
  have e := map_1 (pf := tbl m) (tables m 0 hs) (grid0.coords t)
  refine congrArg (V m c main_v25 : S60x2x1408x256.Idx → BitVec 8) (funext fun x => Fin.ext ?_)
  match x with
  | ⟨0, _⟩ =>
    show cc0_transform_1 k0_off1_inb numel1_S1 (tbl m) (grid0.coords t) 0 * 1 + 1 * 0 = _
    rw [e]
    show (expAt (gsOf m 0) (grid0.coords t)).val * 1 + 1 * 0 = (expAt (gsOf m 0) (grid0.coords t)).val
    omega
  | ⟨1, _⟩ => show 0 * 2 + 1 * a.val = a.val; omega
  | ⟨2, _⟩ => show 0 * 1408 + 1 * b.val = b.val; omega
  | ⟨3, _⟩ => show 0 * 256 + 1 * g.val = g.val; omega

/-- At a point the codebooks' block is the words of the point's group. -/
theorem iblk2_at (hs : HostFacts.Small (gsOf m 0)) (c : Dev nD) (t : Fin (cfgM m hO).N) (b : Fin 16) (g : Fin 128) :
    (iblk m hO c 2 t : S1x16x128.Idx → BitVec 32) (ix3 0 b g)
      = (V m c main_v29 : S60x16x128.Idx → BitVec 32) (ix3 (expAt (gsOf m 0) (grid0.coords t)) b g) := by
  have e := map_2 (pf := tbl m) (tables m 0 hs) (grid0.coords t)
  refine congrArg (V m c main_v29 : S60x16x128.Idx → BitVec 32) (funext fun x => Fin.ext ?_)
  match x with
  | ⟨0, _⟩ =>
    show cc0_transform_2 k0_off1_inb numel1_S1 (tbl m) (grid0.coords t) 0 * 1 + 1 * 0 = _
    rw [e]
    show (expAt (gsOf m 0) (grid0.coords t)).val * 1 + 1 * 0 = (expAt (gsOf m 0) (grid0.coords t)).val
    omega
  | ⟨1, _⟩ => show 0 * 16 + 1 * b.val = b.val; omega
  | ⟨2, _⟩ => show 0 * 128 + 1 * g.val = g.val; omega

/-- At a point the scales' block is the scales of the point's group. -/
theorem iblk3_at (hs : HostFacts.Small (gsOf m 0)) (c : Dev nD) (t : Fin (cfgM m hO).N) (f : Fin 1408) :
    (iblk m hO c 3 t : S1x1x1408.Idx → EReal) (ix3 0 0 f)
      = (V m c main_v30 : S60x1x1408.Idx → EReal) (ix3 (expAt (gsOf m 0) (grid0.coords t)) 0 f) := by
  have e := map_3 (pf := tbl m) (tables m 0 hs) (grid0.coords t)
  refine congrArg (V m c main_v30 : S60x1x1408.Idx → EReal) (funext fun x => Fin.ext ?_)
  match x with
  | ⟨0, _⟩ =>
    show cc0_transform_3 k0_off1_inb numel1_S1 (tbl m) (grid0.coords t) 0 * 1 + 1 * 0 = _
    rw [e]
    show (expAt (gsOf m 0) (grid0.coords t)).val * 1 + 1 * 0 = (expAt (gsOf m 0) (grid0.coords t)).val
    omega
  | ⟨1, _⟩ => rfl
  | ⟨2, _⟩ => show 0 * 1408 + 1 * f.val = f.val; omega

/-- The low half of a pair of 16-bit words. -/
theorem low_of_pair (hi lo : BitVec 16) : (hi ++ lo : BitVec 32).extractLsb' (16 * 0) 16 = lo := by
  apply BitVec.eq_of_getLsbD_eq
  intro k hk
  rw [BitVec.getLsbD_extractLsb']
  simp only [hk, decide_true, Bool.true_and]
  refine (BitVec.getLsbD_append (x := hi) (y := lo)).trans ?_
  simp [hk]

/-- The high half of a pair of 16-bit words. -/
theorem high_of_pair (hi lo : BitVec 16) : (hi ++ lo : BitVec 32).extractLsb' (16 * 1) 16 = hi := by
  apply BitVec.eq_of_getLsbD_eq
  intro k hk
  rw [BitVec.getLsbD_extractLsb']
  simp only [hk, decide_true, Bool.true_and]
  refine (BitVec.getLsbD_append (x := hi) (y := lo)).trans ?_
  simp [hk]

/-- Element `k` of eight, out of the pair of elements `2p`, `2p + 1` that holds it. -/
theorem half_of_pair (g : Fin 8 → BitVec 16) (p : Fin 4) (par : Fin 2) (k : Fin 8) (hk : 2 * p.val + par.val = k.val) :
    (g ⟨2 * p.val + 1, by omega⟩ ++ g ⟨2 * p.val, by omega⟩ : BitVec 32).extractLsb' (16 * par.val) 16 = g k := by
  match par, hk with
  | ⟨0, _⟩, hk => exact (low_of_pair _ _).trans (congrArg g (Fin.ext hk))
  | ⟨1, _⟩, hk => exact (high_of_pair _ _).trans (congrArg g (Fin.ext hk))

/-- An element of a pair of the codebook words is the codebook's element. -/
theorem cbv_at (hs : HostFacts.Small (gsOf m 0)) (c : Dev nD) (t : Fin (cfgM m hO).N) (cb : Fin 2) (p : Fin 4) (par : Fin 2) (code : BitVec 8)
    (k : Fin 8) (hk : 2 * p.val + par.val = k.val) : Decode.cbv (iblk m hO c 2 t) cb p par code
      = Ideal.ofBits .bf16 (cbsOf m c (ix4 (expAt (gsOf m 0) (grid0.coords t)) cb ⟨code.toNat, code.isLt⟩ k)) := by
  have hlt : code.toNat < 256 := code.isLt
  unfold Decode.cbv Decode.entry
  refine congrArg (Ideal.ofBits .bf16) ?_
  refine (congrArg (fun w : BitVec 32 => w.extractLsb' (16 * par.val) 16) ((iblk2_at m hO hs c t _ _).trans
    (v29_at m c _ cb p ⟨code.toNat / 128, by omega⟩ ⟨code.toNat % 128, by omega⟩))).trans ?_
  have ec : (⟨128 * (code.toNat / 128) + code.toNat % 128, by omega⟩ : Fin 256) = ⟨code.toNat, hlt⟩ := Fin.ext (by
    show 128 * (code.toNat / 128) + code.toNat % 128 = code.toNat; omega)
  generalize expAt (gsOf m 0) (grid0.coords t) = e
  show ((cbsOf m c (ix4 e cb (⟨128 * (code.toNat / 128) + code.toNat % 128, by omega⟩ : Fin 256) ⟨2 * p.val + 1, by omega⟩)
    ++ cbsOf m c (ix4 e cb (⟨128 * (code.toNat / 128) + code.toNat % 128, by omega⟩ : Fin 256) ⟨2 * p.val, by omega⟩) : BitVec 32)).extractLsb' (16 * par.val) 16 = _
  rw [ec]
  exact half_of_pair (fun k => cbsOf m c (ix4 e cb ⟨code.toNat, hlt⟩ k)) p par k hk

/-- What a point's visit computes is its group's value. -/
theorem visitVal_at (hs : HostFacts.Small (gsOf m 0)) (c : Dev nD) (t : Fin (cfgM m hO).N) (r : Fin 1536) (f : Fin 1408) :
    visitVal (iblk m hO c 0 t) (iblk m hO c 1 t) (iblk m hO c 2 t) (iblk m hO c 3 t) r f
      = Moe.rowVal (xOf m c) (codesOf m c) (cbsOf m c) (scOf m c) (expAt (gsOf m 0) (grid0.coords t)) r f := by
  unfold visitVal Moe.rowVal
  refine congrArg₂ (· * ·) ?_ ((iblk3_at m hO hs c t f).trans (v30_at m c _ f))
  refine Fintype.sum_equiv Moe.permCol.symm _ _ fun q => ?_
  refine congrArg₂ (· * ·) ((iblk0_at m hO c t r q).trans (v2_at m c r q)) ?_
  have hq : q.val < 2048 := q.isLt
  have ek : Moe.permCol.symm q = ⟨q.val % 256 * 8 + q.val / 256, by omega⟩ := rfl
  have e1 : ∀ a : Fin 2, (iblk m hO c 1 t : S1x2x1408x256.Idx → BitVec 8) (ix4 0 a f ⟨q.val % 256, by omega⟩)
      = codesOf m c (ix4 (expAt (gsOf m 0) (grid0.coords t)) a f ⟨(q.val % 256 * 8 + q.val / 256) / 8, by omega⟩) := fun a => by
    refine (iblk1_at m hO hs c t a f _).trans ?_
    rw [V_v25]
    refine congrArg (codesOf m c) (congrArg (ix4 _ a f) (Fin.ext ?_))
    show q.val % 256 = (q.val % 256 * 8 + q.val / 256) / 8
    omega
  rw [ek]
  unfold Decode.wt Moe.weight
  refine congrArg₂ (· + ·) ?_ ?_
  · exact (cbv_at m hO hs c t 0 _ _ _ ⟨(q.val % 256 * 8 + q.val / 256) % 8, by omega⟩ (by
      show 2 * (q.val / 256 / 2) + q.val / 256 % 2 = (q.val % 256 * 8 + q.val / 256) % 8; omega)).trans
      (congrArg (fun w : BitVec 8 => Ideal.ofBits .bf16 (cbsOf m c (ix4 (expAt (gsOf m 0) (grid0.coords t)) 0 ⟨w.toNat, w.isLt⟩
        ⟨(q.val % 256 * 8 + q.val / 256) % 8, by omega⟩))) (e1 0))
  · exact (cbv_at m hO hs c t 1 _ _ _ ⟨(q.val % 256 * 8 + q.val / 256) % 8, by omega⟩ (by
      show 2 * (q.val / 256 / 2) + q.val / 256 % 2 = (q.val % 256 * 8 + q.val / 256) % 8; omega)).trans
      (congrArg (fun w : BitVec 8 => Ideal.ofBits .bf16 (cbsOf m c (ix4 (expAt (gsOf m 0) (grid0.coords t)) 1 ⟨w.toNat, w.isLt⟩
        ⟨(q.val % 256 * 8 + q.val / 256) % 8, by omega⟩))) (e1 1))

end Cert.Proof.KernelIdeal.Val

end
-- ==== Proof.KernelIdealResult.lean ====
/- What the idealized kernel's output array holds at the end: every row the value of the group that owns it, and zero past the last row owned. -/
module

public import proofs.«01_k».proof.Proof.KernelIdealInputs

@[expose] public section

set_option maxRecDepth 16384

noncomputable section

namespace Cert.Proof.KernelIdeal.Val

open Cert.KernelIdeal Cert.KernelIdeal.Gen
open Idealize.ShloMosaic Idealize.ShloMosaic.TcCoe Idealize.ShloMosaic.Tactic

variable (m : (ℓ : Loc nD τ sig) → Buf (Elt Ideal) ℓ) (hO : Ok m)

/-- Group `e` owns row `r`. -/
def Owns (gs : HostFacts.Sizes) (e : Fin 60) (r : Fin 1536) : Prop := HostFacts.off gs e.val ≤ r.val ∧ r.val < HostFacts.off gs (e.val + 1)

/-- At most one group owns a row. -/
theorem owns_unique {gs : HostFacts.Sizes} {e e' : Fin 60} {r : Fin 1536} (h : Owns gs e r) (h' : Owns gs e' r) : e = e' := by
  obtain ⟨h1, h2⟩ := h
  obtain ⟨h1', h2'⟩ := h'
  rcases Nat.lt_trichotomy e.val e'.val with hl | he | hl
  · have := HostFacts.off_mono (gs := gs) (show e.val + 1 ≤ e'.val from hl)
    omega
  · exact Fin.ext he
  · have := HostFacts.off_mono (gs := gs) (show e'.val + 1 ≤ e.val from hl)
    omega

/-- The group of point `t` is the group that the tables name there. -/
theorem expAt_coords (t : Fin (cfgM m hO).N) : expAt (gsOf m 0) (grid0.coords t) = HostFacts.expert (gsOf m 0) ⟨t.val, t.isLt⟩ :=
  congrArg (HostFacts.expert (gsOf m 0)) (Fin.ext (coord_val t))

/-- The value of group `e` at row `r` and feature `f`. -/
abbrev valOf (c : Dev nD) : Fin 60 → Fin 1536 → Fin 1408 → EReal := Moe.rowVal (xOf m c) (codesOf m c) (cbsOf m c) (scOf m c)

/-- One point's step at a row and a feature. -/
theorem outUpTo_step (hs : HostFacts.Small (gsOf m 0)) (c : Dev nD) (t : Fin (cfgM m hO).N) (h : t.val < HostFacts.used (gsOf m 0)) (r : Fin 1536) (f : Fin 1408) :
    (Owns (gsOf m 0) (HostFacts.expert (gsOf m 0) ⟨t.val, t.isLt⟩) r →
      (outUpTo m hO c (t.val + 1) : S1536x1408.Idx → EReal) (ix2 r f) = valOf m c (HostFacts.expert (gsOf m 0) ⟨t.val, t.isLt⟩) r f)
    ∧ (¬ Owns (gsOf m 0) (HostFacts.expert (gsOf m 0) ⟨t.val, t.isLt⟩) r →
      (outUpTo m hO c (t.val + 1) : S1536x1408.Idx → EReal) (ix2 r f) = (outUpTo m hO c t.val : S1536x1408.Idx → EReal) (ix2 r f)) := by
  have hv := visitVal_at m hO hs c t r f
  have he := congrFun (outUpTo_visit m hO c t h) (ix2 r f)
  rw [← expAt_coords m hO t]
  generalize expAt (gsOf m 0) (grid0.coords t) = e at hv he
  refine ⟨fun ho => he.trans ?_, fun ho => he.trans ?_⟩
  · exact (if_pos ho).trans hv
  · exact if_neg ho

/-- The zeros the output starts from. -/
theorem outUpTo_zero (c : Dev nD) (r : Fin 1536) (f : Fin 1408) : (outUpTo m hO c 0 : S1536x1408.Idx → EReal) (ix2 r f) = 0 := by
  show (k0_pay1 (F := Ideal) : S1536x1408.Idx → EReal) (ix2 r f) = 0
  show Ideal.ofBits .bf16 0x0000#16 = 0
  simp [Ideal.ofBits, Ideal.ieee]

/-- After `n` points: a row whose group was visited holds its value, a row whose group was not holds zero. -/
theorem outUpTo_at (hs : HostFacts.Small (gsOf m 0)) (c : Dev nD) (r : Fin 1536) (f : Fin 1408) (n : ℕ) (hn : n ≤ 60) :
    (∀ i : Fin 60, i.val < n → i.val < HostFacts.used (gsOf m 0) → Owns (gsOf m 0) (HostFacts.expert (gsOf m 0) i) r →
      (outUpTo m hO c n : S1536x1408.Idx → EReal) (ix2 r f) = valOf m c (HostFacts.expert (gsOf m 0) i) r f)
    ∧ ((∀ e : Fin 60, ¬ Owns (gsOf m 0) e r) → (outUpTo m hO c n : S1536x1408.Idx → EReal) (ix2 r f) = 0) := by
  induction n with
  | zero => exact ⟨fun i hi => absurd hi (Nat.not_lt_zero _), fun _ => outUpTo_zero m hO c r f⟩
  | succ n ih =>
    obtain ⟨ih1, ih2⟩ := ih (by omega)
    by_cases hu : n < HostFacts.used (gsOf m 0)
    · have hst := outUpTo_step m hO hs c ⟨n, by show n < 60; omega⟩ hu r f
      refine ⟨fun i hi hiu ho => ?_, fun hno => (hst.2 (hno _)).trans (ih2 hno)⟩
      by_cases hw : Owns (gsOf m 0) (HostFacts.expert (gsOf m 0) ⟨n, by omega⟩) r
      · exact (hst.1 hw).trans (congrArg (fun e => valOf m c e r f) (owns_unique hw ho))
      · have hin : i.val ≠ n := fun e => hw (by
          have : i = ⟨n, by omega⟩ := Fin.ext e
          rw [← this]; exact ho)
        exact (hst.2 hw).trans (ih1 i (by omega) hiu ho)
    · rw [outUpTo_idle m hO c n hu]
      exact ⟨fun i hi hiu ho => ih1 i (by omega) hiu ho, ih2⟩

/-- The output's rows that a group owns hold the group's value. -/
theorem out_owned (hs : HostFacts.Small (gsOf m 0)) (c : Dev nD) (e : Fin 60) (r : Fin 1536) (f : Fin 1408) (h : Owns (gsOf m 0) e r) :
    (outUpTo m hO c 60 : S1536x1408.Idx → EReal) (ix2 r f) = valOf m c e r f := by
  have hpos : 0 < HostFacts.sz (gsOf m 0) e.val := by
    have := HostFacts.off_succ (gs := gsOf m 0) e.val
    have h1 := h.1
    have h2 := h.2
    omega
  obtain ⟨i, hi, rfl⟩ := HostFacts.expert_all e hpos
  exact (outUpTo_at m hO hs c r f 60 (Nat.le_refl _)).1 i i.isLt hi h

/-- The output's rows that no group owns hold zero. -/
theorem out_unowned (hs : HostFacts.Small (gsOf m 0)) (c : Dev nD) (r : Fin 1536) (f : Fin 1408) (h : ∀ e : Fin 60, ¬ Owns (gsOf m 0) e r) :
    (outUpTo m hO c 60 : S1536x1408.Idx → EReal) (ix2 r f) = 0 :=
  (outUpTo_at m hO hs c r f 60 (Nat.le_refl _)).2 h

end Cert.Proof.KernelIdeal.Val

end
-- ==== Proof.ReferenceOps.lean ====
/- The reference's gathers and its product, read at an index. -/
module

public import proofs.«01_k».proof.Proof.Gen.ReferenceIdeal.Run
public import proofs.«01_k».proof.Proof.HostFacts
public import proofs.«01_k».proof.Proof.MoeSpec
public import Idealize.ShloMosaic.PureOps.Ideal.Laws
public import Idealize.ShloMosaic.Lib.Pointwise
public import Idealize.ShloMosaic.Lib.StackMember
public import Idealize.ShloMosaic.Lib.WordCmp

@[expose] public section

set_option maxRecDepth 16384

noncomputable section

namespace Cert.Proof.Reference

open Cert.ReferenceIdeal
open Idealize.ShloMosaic

variable {α : Type}

/-- A small number read back from its signed word. -/
theorem toNat_word {n : ℕ} (h : n < 2 ^ 31) : (BitVec.ofNat 32 n).toInt.toNat = n := by
  rw [Idealize.ShloMosaic.StableHlo.Predicate.toInt_ofNat_small _ h]
  rfl

/-- The weights of a row's group: the gather's entry at row `r` is the table's entry at the group the index names. -/
theorem gather_weights (x : S60x2048x1408.Idx → α) (idx : IVec S1536x1 32) (r : Fin 1536) (k : Fin 2048) (f : Fin 1408) (e : Fin 60)
    (he : idx (ix2 r 0) = BitVec.ofNat 32 e.val) :
    Host.gather gather_S60x2048x1408_S1536x1_S1536x2048x1408_12_0_n_n_0_1_120481408 x idx (ix3 r k f) = x (ix3 e k f) := by
  have hb := e.isLt
  unfold Host.gather
  refine congrArg x (funext fun a => Fin.ext ?_)
  match a with
  | ⟨0, _⟩ =>
    have hsi : gather_S60x2048x1408_S1536x1_S1536x2048x1408_12_0_n_n_0_1_120481408.siIdx (ix3 r k f) ⟨0, by decide⟩ = ix2 r 0 := by
      funext b
      match b with
      | ⟨0, _⟩ => rfl
      | ⟨1, _⟩ => rfl
    show min (idx (gather_S60x2048x1408_S1536x1_S1536x2048x1408_12_0_n_n_0_1_120481408.siIdx (ix3 r k f) ⟨0, by decide⟩)).toInt.toNat (60 - 1) + 0 + 0 = e.val
    rw [hsi, he, toNat_word (by omega)]
    omega
  | ⟨1, _⟩ => show 0 + 0 + k.val = k.val; omega
  | ⟨2, _⟩ => show 0 + 0 + f.val = f.val; omega

/-- The codebook entries the codes select: the gather's entry is the table's at the three indices named. -/
theorem gather_entries (x : S60x2x256x8.Idx → α) (idx : IVec S60x2x1408x256x3 32) (e : Fin 60) (cb : Fin 2) (f : Fin 1408) (g : Fin 256) (j : Fin 8)
    (code : Fin 256) (h0 : idx (ix5 e cb f g 0) = BitVec.ofNat 32 e.val) (h1 : idx (ix5 e cb f g 1) = BitVec.ofNat 32 cb.val)
    (h2 : idx (ix5 e cb f g 2) = BitVec.ofNat 32 code.val) :
    Host.gather gather_S60x2x256x8_S60x2x1408x256x3_S60x2x1408x256x8_4_012_n_n_012_4_1118 x idx (ix5 e cb f g j) = x (ix4 e cb code j) := by
  have he := e.isLt
  have hc := cb.isLt
  have hd := code.isLt
  unfold Host.gather
  refine congrArg x (funext fun a => Fin.ext ?_)
  have hsi : ∀ q : Fin 3, gather_S60x2x256x8_S60x2x1408x256x3_S60x2x1408x256x8_4_012_n_n_012_4_1118.siIdx (ix5 e cb f g j) q = ix5 e cb f g q := fun q => by
    funext b
    match b with
    | ⟨0, _⟩ => rfl
    | ⟨1, _⟩ => rfl
    | ⟨2, _⟩ => rfl
    | ⟨3, _⟩ => rfl
    | ⟨4, _⟩ => rfl
  match a with
  | ⟨0, _⟩ =>
    show min (idx (gather_S60x2x256x8_S60x2x1408x256x3_S60x2x1408x256x8_4_012_n_n_012_4_1118.siIdx (ix5 e cb f g j) (0 : Fin 3))).toInt.toNat (60 - 1) + 0 + 0 = e.val
    rw [hsi, h0, toNat_word (by omega)]
    omega
  | ⟨1, _⟩ =>
    show min (idx (gather_S60x2x256x8_S60x2x1408x256x3_S60x2x1408x256x8_4_012_n_n_012_4_1118.siIdx (ix5 e cb f g j) (1 : Fin 3))).toInt.toNat (2 - 1) + 0 + 0 = cb.val
    rw [hsi, h1, toNat_word (by omega)]
    omega
  | ⟨2, _⟩ =>
    show min (idx (gather_S60x2x256x8_S60x2x1408x256x3_S60x2x1408x256x8_4_012_n_n_012_4_1118.siIdx (ix5 e cb f g j) (2 : Fin 3))).toInt.toNat (256 - 1) + 0 + 0 = code.val
    rw [hsi, h2, toNat_word (by omega)]
    omega
  | ⟨3, _⟩ => show 0 + 0 + j.val = j.val; omega

/-- The product of every row with its own matrix, at an index: the sum over the contracted column. -/
theorem dot_rows (x : FVec Ideal S1536x2048 .bf16) (w : FVec Ideal S1536x2048x1408 .bf16) (r : Fin 1536) (f : Fin 1408) :
    Host.dotGeneral dot_S1536x2048_S1536x2048x1408_S1536x1408_1_1_n_2_0_0 none x w (ix2 r f) = (∑ k : Fin 2048, x (ix2 r k) * w (ix3 r k f) : EReal) := by
  show FloatOps.dotGeneral _ none _ x w (ix2 r f) = _
  rw [Ideal.dotGeneral_apply, ← Equiv.sum_comp (ValueIdx.contrEquiv1 dot_S1536x2048_S1536x2048x1408_S1536x1408_1_1_n_2_0_0 2048 rfl rfl).symm]
  refine Finset.sum_congr rfl fun c _ => ?_
  have c3 := ValueIdx.contrEquiv1_symm_val dot_S1536x2048_S1536x2048x1408_S1536x1408_1_1_n_2_0_0 2048 rfl rfl c
  refine congrArg₂ (· * ·) (congrArg x (funext fun a => Fin.ext ?_)) (congrArg w (funext fun a => Fin.ext ?_))
  · match a with
    | ⟨0, _⟩ => rfl
    | ⟨1, _⟩ => exact c3
  · match a with
    | ⟨0, _⟩ => rfl
    | ⟨1, _⟩ => exact c3
    | ⟨2, _⟩ => rfl

end Cert.Proof.Reference

end
-- ==== Proof.ReferenceValue.lean ====
/- The reference's result, read at an index: a row that a group owns holds the group's value, a row that none owns holds zero. -/
module

public import proofs.«01_k».proof.Proof.ReferenceOps
public import Idealize.ShloMosaic.Lib.Routing.Ops

@[expose] public section

set_option maxRecDepth 16384

noncomputable section

namespace Cert.Proof.Reference

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

/-- The activations as launched. -/
abbrev xOf : S1536x2048.Idx → EReal := m ((c.tc : Thread nD τ).loc main_arg0)
/-- The group sizes as launched. -/
abbrev gsOf : HostFacts.Sizes := m ((c.tc : Thread nD τ).loc main_arg1)
/-- The codes as launched. -/
abbrev codesOf : S60x2x1408x256.Idx → BitVec 8 := m ((c.tc : Thread nD τ).loc main_arg2)
/-- The codebooks as launched. -/
abbrev cbsOf : S60x2x256x8.Idx → BitVec 16 := m ((c.tc : Thread nD τ).loc main_arg3)
/-- The scales as launched. -/
abbrev scOf : S60x1408.Idx → EReal := m ((c.tc : Thread nD τ).loc main_arg4)

/-- The number of the group of each row, as the reference computes it: how many groups end at or before the row. -/
def groupW (gs : IVec S60 32) : IVec S1536 32 :=
  Host.reduce IntOp.addi (extui 32 (cmpi .sle (broadcastInDim S1536x60 ![0, 1] bcast_S1x60_S1536x60_0_1 (broadcastInDim S1x60 ![1] bcast_S60_S1x60_1
    (Host.reduceWindow IntOp.addi ![60] ![1] ![59] ![0] gs (broadcastInDim S_ ![] bcast_S_S_ (constantI S_ 32 0#32)) reduceWindows_S60_S60_w60s1p59_0 h_S_)))
    (broadcastInDim S1536x60 ![0, 1] bcast_S1536x1_S1536x60_0_1 (broadcastInDim S1536x1 ![0] bcast_S1536_S1536x1_0 (iotaInDim S1536 32 0)))) natLt_1_32)
    (constantI S_ 32 0#32) reducesTo_S1536x60_S1536_d1 h_S_

/-- An index that counts from the end when it is negative, laid out for the gathers over rows. -/
def idxW (n : IVec S1536 32) : IVec S1536x1 32 :=
  broadcastInDim S1536x1 ![0] bcast_S1536_S1536x1_0 (select (cmpi .slt n (broadcastInDim S1536 ![] bcast_S_S1536 (constantI S_ 32 0#32)))
    (addi n (broadcastInDim S1536 ![] bcast_S_S1536 (constantI S_ 32 60#32))) n)

/-- The three indices of every codebook lookup: the group, the codebook, the code. -/
def lookW (codes : IVec S60x2x1408x256 8) : IVec S60x2x1408x256x3 32 :=
  concatenate S60x2x1408x256x3 4 [⟨S60x2x1408x256x1, ((broadcastInDim S60x2x1408x256x1 ![0, 1, 2, 3] bcast_S60x2x1408x256_S60x2x1408x256x1_0_1_2_3 (broadcastInDim S60x2x1408x256 ![0, 1, 2, 3] bcast_S60x1x1x1_S60x2x1408x256_0_1_2_3 (select (cmpi .slt (broadcastInDim S60x1x1x1 ![0] bcast_S60_S60x1x1x1_0 (iotaInDim S60 32 0)) (broadcastInDim S60x1x1x1 ![] bcast_S_S60x1x1x1 (constantI S_ 32 0#32))) (addi (broadcastInDim S60x1x1x1 ![0] bcast_S60_S60x1x1x1_0 (iotaInDim S60 32 0)) (broadcastInDim S60x1x1x1 ![] bcast_S_S60x1x1x1 (constantI S_ 32 60#32))) (broadcastInDim S60x1x1x1 ![0] bcast_S60_S60x1x1x1_0 (iotaInDim S60 32 0))))) : (⟨S60x2x1408x256x1, .i32⟩ : BufTy).Contents (Elt Ideal))⟩, ⟨S60x2x1408x256x1, ((broadcastInDim S60x2x1408x256x1 ![0, 1, 2, 3] bcast_S60x2x1408x256_S60x2x1408x256x1_0_1_2_3 (broadcastInDim S60x2x1408x256 ![0, 1, 2, 3] bcast_S1x2x1x1_S60x2x1408x256_0_1_2_3 (select (cmpi .slt (broadcastInDim S1x2x1x1 ![1] bcast_S2_S1x2x1x1_1 (iotaInDim S2 32 0)) (broadcastInDim S1x2x1x1 ![] bcast_S_S1x2x1x1 (constantI S_ 32 0#32))) (addi (broadcastInDim S1x2x1x1 ![1] bcast_S2_S1x2x1x1_1 (iotaInDim S2 32 0)) (broadcastInDim S1x2x1x1 ![] bcast_S_S1x2x1x1 (constantI S_ 32 2#32))) (broadcastInDim S1x2x1x1 ![1] bcast_S2_S1x2x1x1_1 (iotaInDim S2 32 0))))) : (⟨S60x2x1408x256x1, .i32⟩ : BufTy).Contents (Elt Ideal))⟩, ⟨S60x2x1408x256x1, ((broadcastInDim S60x2x1408x256x1 ![0, 1, 2, 3] bcast_S60x2x1408x256_S60x2x1408x256x1_0_1_2_3 (select (cmpi .slt (extui 32 codes natLt_8_32) (broadcastInDim S60x2x1408x256 ![] bcast_S_S60x2x1408x256 (constantI S_ 32 0#32))) (addi (extui 32 codes natLt_8_32) (broadcastInDim S60x2x1408x256 ![] bcast_S_S60x2x1408x256 (constantI S_ 32 256#32))) (extui 32 codes natLt_8_32))) : (⟨S60x2x1408x256x1, .i32⟩ : BufTy).Contents (Elt Ideal))⟩] concatenates_S60x2x1408x256x1_S60x2x1408x256x1_S60x2x1408x256x1_S60x2x1408x256x3_d4

/-- The codebook entries that the codes select. -/
def entries (codes : IVec S60x2x1408x256 8) (cbs : IVec S60x2x256x8 16) : FVec Ideal S60x2x1408x256x8 .bf16 :=
  Host.gather gather_S60x2x256x8_S60x2x1408x256x3_S60x2x1408x256x8_4_012_n_n_012_4_1118 (bitcastToFloat (F := Ideal) .bf16 cbs) (lookW codes)

/-- The decoded weights of all groups, laid out by group, input column and feature. -/
def weights (g : FVec Ideal S60x2x1408x256x8 .bf16) : FVec Ideal S60x2048x1408 .bf16 :=
  transpose S60x2048x1408 [0, 2, 1] (shapeCast S60x1408x2048 (truncf .bf16 (addf
    (extf .f32 (shapeCast S60x1408x256x8 (extractStridedSlice S60x1x1408x256x8 ![0, 0, 0, 0, 0] g slices_S60x2x1408x256x8_S60x1x1408x256x8_0_0_0_0_0) shapeCasts_S60x1x1408x256x8_S60x1408x256x8) bitsLt_bf16_f32)
    (extf .f32 (shapeCast S60x1408x256x8 (extractStridedSlice S60x1x1408x256x8 ![0, 1, 0, 0, 0] g slices_S60x2x1408x256x8_S60x1x1408x256x8_0_1_0_0_0) shapeCasts_S60x1x1408x256x8_S60x1408x256x8) bitsLt_bf16_f32)) bitsLt_bf16_f32)
    shapeCasts_S60x1408x256x8_S60x1408x2048) transposes_S60x1408x2048_S60x2048x1408_0_2_1

/-- Which places lie in a row below the sum of the group sizes. -/
def validW (gs : IVec S60 32) : IVec S1536x1408 1 :=
  broadcastInDim S1536x1408 ![0, 1] bcast_S1536x1_S1536x1408_0_1 (broadcastInDim S1536x1 ![0] bcast_S1536_S1536x1_0 (cmpi .slt (iotaInDim S1536 32 0)
    (broadcastInDim S1536 ![] bcast_S_S1536 (Host.reduce IntOp.addi gs (constantI S_ 32 0#32) reducesTo_S60_S_d0 h_S_))))

/-- The reference's result in these terms. -/
theorem result_eq : res_main_v68 m c = truncf .bf16 (select (validW (gsOf m c))
    (mulf (Host.dotGeneral (F := Ideal) (φ₁ := .bf16) (φ₂ := .bf16) dot_S1536x2048_S1536x2048x1408_S1536x1408_1_1_n_2_0_0 none (xOf m c)
        (Host.gather gather_S60x2048x1408_S1536x1_S1536x2048x1408_12_0_n_n_0_1_120481408 (weights (entries (codesOf m c) (cbsOf m c))) (idxW (groupW (gsOf m c)))))
      (Host.gather gather_S60x1408_S1536x1_S1536x1408_1_0_n_n_0_1_11408 (scOf m c) (idxW (groupW (gsOf m c)))))
    (broadcastInDim S1536x1408 ![] bcast_S_S1536x1408 (id (constant S_ .f32 0x00000000#32)))) bitsLt_bf16_f32 := by
  unfold res_main_v68 validW weights entries idxW groupW lookW
  rfl

/-- The weights at an index: the sum of the two codebooks' elements. -/
theorem weights_at (g : FVec Ideal S60x2x1408x256x8 .bf16) (e : Fin 60) (k : Fin 2048) (f : Fin 1408) :
    weights g (ix3 e k f) = (g (ix5 e 0 f ⟨k.val / 8, by omega⟩ ⟨k.val % 8, by omega⟩) + g (ix5 e 1 f ⟨k.val / 8, by omega⟩ ⟨k.val % 8, by omega⟩) : EReal) := by
  unfold weights
  pointwise

/-- The row indices at a row. -/
theorem idxW_at (n : IVec S1536 32) (r : Fin 1536) (e : Fin 60) (h : n (ix1 r) = BitVec.ofNat 32 e.val) : idxW n (ix2 r 0) = BitVec.ofNat 32 e.val := by
  have hs : ∀ e : Fin 60, Scalar.select (IntOp.cmpi .slt (BitVec.ofNat 32 e.val) 0#32) (BitVec.ofNat 32 e.val + 60#32) (BitVec.ofNat 32 e.val) = BitVec.ofNat 32 e.val := by decide
  refine Eq.trans ?_ (hs e)
  rw [← h]
  unfold idxW
  pointwise
  rfl

/-- The first index of a lookup is the group. -/
theorem lookW_at0 (codes : IVec S60x2x1408x256 8) (e : Fin 60) (cb : Fin 2) (f : Fin 1408) (g : Fin 256) :
    lookW codes (ix5 e cb f g 0) = BitVec.ofNat 32 e.val := by
  have hs : ∀ e : Fin 60, Scalar.select (IntOp.cmpi .slt (BitVec.ofNat 32 e.val) 0#32) (BitVec.ofNat 32 e.val + 60#32) (BitVec.ofNat 32 e.val) = BitVec.ofNat 32 e.val := by decide
  refine Eq.trans ?_ (hs e)
  unfold lookW
  pointwise
  rfl

/-- The second index of a lookup is the codebook. -/
theorem lookW_at1 (codes : IVec S60x2x1408x256 8) (e : Fin 60) (cb : Fin 2) (f : Fin 1408) (g : Fin 256) :
    lookW codes (ix5 e cb f g 1) = BitVec.ofNat 32 cb.val := by
  have hs : ∀ e : Fin 2, Scalar.select (IntOp.cmpi .slt (BitVec.ofNat 32 e.val) 0#32) (BitVec.ofNat 32 e.val + 2#32) (BitVec.ofNat 32 e.val) = BitVec.ofNat 32 e.val := by decide
  refine Eq.trans ?_ (hs cb)
  unfold lookW
  pointwise
  rfl

/-- The third index of a lookup is the code. -/
theorem lookW_at2 (codes : IVec S60x2x1408x256 8) (e : Fin 60) (cb : Fin 2) (f : Fin 1408) (g : Fin 256) :
    lookW codes (ix5 e cb f g 2) = BitVec.ofNat 32 (codes (ix4 e cb f g)).toNat := by
  have hs : ∀ b : BitVec 8, Scalar.select (IntOp.cmpi .slt (b.setWidth 32) 0#32) (b.setWidth 32 + 256#32) (b.setWidth 32) = BitVec.ofNat 32 b.toNat := by decide
  refine Eq.trans ?_ (hs _)
  unfold lookW
  pointwise
  rfl

/-- The entries at an index. -/
theorem entries_at (codes : IVec S60x2x1408x256 8) (cbs : IVec S60x2x256x8 16) (e : Fin 60) (cb : Fin 2) (f : Fin 1408) (g : Fin 256) (j : Fin 8) :
    entries codes cbs (ix5 e cb f g j) = Ideal.ofBits .bf16 (cbs (ix4 e cb ⟨(codes (ix4 e cb f g)).toNat, (codes _).isLt⟩ j)) :=
  gather_entries _ _ e cb f g j ⟨(codes (ix4 e cb f g)).toNat, (codes _).isLt⟩ (lookW_at0 ..) (lookW_at1 ..) (lookW_at2 ..)

/-- The decoded weights are the plain ones. -/
theorem decoded_at (codes : IVec S60x2x1408x256 8) (cbs : IVec S60x2x256x8 16) (e : Fin 60) (k : Fin 2048) (f : Fin 1408) :
    weights (entries codes cbs) (ix3 e k f) = Moe.weight codes cbs e f k := by
  rw [weights_at, entries_at, entries_at]
  rfl

section Words
attribute [local irreducible] Host.reduceWindow Host.reduce

/-- The number of groups that end at or before a row that group `e` owns is `e`. -/
theorem groupW_at (gs : HostFacts.Sizes) (hs : HostFacts.Small gs) (r : Fin 1536) (e : Fin 60) (h1 : HostFacts.off gs e.val ≤ r.val)
    (h2 : r.val < HostFacts.off gs (e.val + 1)) : groupW gs (ix1 r) = BitVec.ofNat 32 e.val := by
  have hcount : ∀ e : Fin 60, Nat.count (fun q => q < e.val) 60 = e.val := by decide
  refine (Routing.reduce_count (by decide) _ natLt_1_32 _ _ r (fun q => q < e.val) fun q => ?_).trans (congrArg _ (hcount e))
  have hc := HostFacts.cumsum_word (gs := gs) reduceWindows_S60_S60_w60s1p59_0 h_S_ (broadcastInDim S_ ![] bcast_S_S_ (constantI S_ 32 0#32)) rfl q
  generalize Host.reduceWindow IntOp.addi _ _ _ _ _ _ _ _ = v at hc ⊢
  have hv : cmpi .sle (broadcastInDim S1536x60 ![0, 1] bcast_S1x60_S1536x60_0_1 (broadcastInDim S1x60 ![1] bcast_S60_S1x60_1 v))
      (broadcastInDim S1536x60 ![0, 1] bcast_S1536x1_S1536x60_0_1 (broadcastInDim S1536x1 ![0] bcast_S1536_S1536x1_0 (iotaInDim S1536 32 0))) (ix2 r q)
      = IntOp.cmpi .sle (v (ix1 q)) (BitVec.ofNat 32 r.val) := by pointwise
  have hq := q.isLt
  have hr := r.isLt
  have ho := HostFacts.off_le hs (q.val + 1)
  refine (iff_of_eq (congrArg (· = 1#1) (hv.trans (congrArg (fun w => IntOp.cmpi .sle w (BitVec.ofNat 32 r.val)) hc)))).trans ?_
  rw [WordCmp.cmpi_sle_eq, WordCmp.toInt_ofNat_of_lt (w := 32) (by omega), WordCmp.toInt_ofNat_of_lt (w := 32) (by omega)]
  rw [show ∀ b : Bool, (BitVec.ofBool b = 1#1) ↔ b = true from by decide, decide_eq_true_iff]
  constructor
  · intro h
    by_contra hge
    have := HostFacts.off_mono (gs := gs) (show e.val + 1 ≤ q.val + 1 by omega)
    omega
  · intro h
    have := HostFacts.off_mono (gs := gs) (show q.val + 1 ≤ e.val by omega)
    omega

/-- A place is valid when its row is below the number of rows that the groups own. -/
theorem validW_at (gs : HostFacts.Sizes) (hs : HostFacts.Small gs) (r : Fin 1536) (f : Fin 1408) :
    validW gs (ix2 r f) = BitVec.ofBool (decide (r.val < HostFacts.off gs 60)) := by
  have hsum : Host.reduce IntOp.addi gs (constantI S_ 32 0#32) reducesTo_S60_S_d0 h_S_ ix0 = BitVec.ofNat 32 (HostFacts.off gs 60) :=
    Routing.reduce_sum gs (HostFacts.sz gs) HostFacts.sz_word _ _
  unfold validW
  generalize Host.reduce IntOp.addi gs (constantI S_ 32 0#32) reducesTo_S60_S_d0 h_S_ = v at hsum
  have hv : broadcastInDim S1536x1408 ![0, 1] bcast_S1536x1_S1536x1408_0_1 (broadcastInDim S1536x1 ![0] bcast_S1536_S1536x1_0 (cmpi .slt (iotaInDim S1536 32 0)
      (broadcastInDim S1536 ![] bcast_S_S1536 v))) (ix2 r f) = IntOp.cmpi .slt (BitVec.ofNat 32 r.val) (v ix0) := by pointwise
  have hr := r.isLt
  have ho := HostFacts.off_le hs 60
  rw [hv, hsum]
  clear hv hsum
  generalize HostFacts.off gs 60 = T at ho ⊢
  rw [WordCmp.cmpi_slt_eq, WordCmp.toInt_ofNat_of_lt (w := 32) (by omega), WordCmp.toInt_ofNat_of_lt (w := 32) (by omega)]
  congr 1
  simp

end Words

/-- A row that group `e` owns holds the group's value. -/
theorem result_owned (hs : HostFacts.Small (gsOf m c)) (e : Fin 60) (r : Fin 1536) (f : Fin 1408) (h1 : HostFacts.off (gsOf m c) e.val ≤ r.val)
    (h2 : r.val < HostFacts.off (gsOf m c) (e.val + 1)) :
    (res_main_v68 m c : S1536x1408.Idx → EReal) (ix2 r f) = Moe.rowVal (xOf m c) (codesOf m c) (cbsOf m c) (scOf m c) e r f := by
  have hi := idxW_at _ r e (groupW_at (gsOf m c) hs r e h1 h2)
  have hv := validW_at (gsOf m c) hs r f
  have hlt : r.val < HostFacts.off (gsOf m c) 60 := by
    have := HostFacts.off_mono (gs := gsOf m c) (show e.val + 1 ≤ 60 from e.isLt)
    omega
  rw [decide_eq_true hlt] at hv
  have hd := (dot_rows (xOf m c) (Host.gather gather_S60x2048x1408_S1536x1_S1536x2048x1408_12_0_n_n_0_1_120481408 (weights (entries (codesOf m c) (cbsOf m c)))
    (idxW (groupW (gsOf m c)))) r f).trans (Finset.sum_congr rfl fun k _ => congrArg (fun w : EReal => xOf m c (ix2 r k) * w)
      ((gather_weights _ _ r k f e hi).trans (decoded_at (codesOf m c) (cbsOf m c) e k f)))
  have hg := Routing.gather_row gather_S60x1408_S1536x1_S1536x1408_1_0_n_n_0_1_11408 rfl rfl rfl rfl rfl (scOf m c) _ r f e hi (by decide)
  refine (congrFun (result_eq m c) (ix2 r f)).trans ?_
  generalize Host.dotGeneral (F := Ideal) (φ₁ := .bf16) (φ₂ := .bf16) _ _ _ _ = D at hd ⊢
  generalize Host.gather gather_S60x1408_S1536x1_S1536x1408_1_0_n_n_0_1_11408 _ _ = G at hg ⊢
  generalize validW (gsOf m c) = B at hv ⊢
  show Scalar.select (B (ix2 r f)) (D (ix2 r f) * G (ix2 r f) : EReal) _ = _
  rw [hv]
  exact congrArg₂ (fun a b : EReal => a * b) hd hg

/-- A row past all that the groups own holds zero. -/
theorem result_unowned (hs : HostFacts.Small (gsOf m c)) (r : Fin 1536) (f : Fin 1408) (h : HostFacts.off (gsOf m c) 60 ≤ r.val) :
    (res_main_v68 m c : S1536x1408.Idx → EReal) (ix2 r f) = (0 : EReal) := by
  have hv := validW_at (gsOf m c) hs r f
  rw [decide_eq_false (Nat.not_lt.mpr h)] at hv
  refine (congrFun (result_eq m c) (ix2 r f)).trans ?_
  generalize Host.dotGeneral (F := Ideal) (φ₁ := .bf16) (φ₂ := .bf16) _ _ _ _ = D
  generalize Host.gather gather_S60x1408_S1536x1_S1536x1408_1_0_n_n_0_1_11408 _ _ = G
  generalize validW (gsOf m c) = B at hv ⊢
  show Scalar.select (B (ix2 r f)) (D (ix2 r f) * G (ix2 r f) : EReal) (Ideal.ofBits .f32 0x00000000#32) = (0 : EReal)
  rw [hv]
  show Ideal.ofBits .f32 0x00000000#32 = 0
  simp [Ideal.ofBits, Ideal.ieee]

end Cert.Proof.Reference

end
-- ==== Proof.Algebraic.lean ====
/- The idealized kernel and the reference end with the same result over the reals. -/
module

public import proofs.«01_k».proof.Defs
public import proofs.«01_k».proof.Proof.Gen.Pre_sizes_are_row_counts
public import proofs.«01_k».proof.Proof.KernelIdealResult
public import proofs.«01_k».proof.Proof.ReferenceValue
public import proofs.«01_k».proof.Proof.Precondition

@[expose] public section

noncomputable section

namespace Cert.Proof

open Idealize.ShloMosaic Idealize.SL.Sem

/-- A row below the first row past all groups is owned by some group. -/
theorem exists_owner {gs : HostFacts.Sizes} (r : Fin 1536) (k : ℕ) (hk : k ≤ 60) (h : r.val < HostFacts.off gs k) :
    ∃ e : Fin 60, HostFacts.off gs e.val ≤ r.val ∧ r.val < HostFacts.off gs (e.val + 1) := by
  induction k with
  | zero => exact absurd h (by rw [HostFacts.off_zero]; omega)
  | succ k ih =>
    by_cases hlt : r.val < HostFacts.off gs k
    · exact ih (by omega) hlt
    · exact ⟨⟨k, hk⟩, Nat.not_lt.mp hlt, h⟩

/-- From equal arguments the reference's result is what the kernel's output array ends as. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hO : KernelIdeal.Ok m) (hs : HostFacts.Small (KernelIdeal.gsOf m 0)) (c : Dev Cert.KernelIdeal.nD) (hc : c = 0)
    (h0 : Reference.xOf m' c = KernelIdeal.Val.xOf m c) (h1 : Reference.gsOf m' c = KernelIdeal.gsOf m c)
    (h2 : Reference.codesOf m' c = KernelIdeal.Val.codesOf m c) (h3 : Reference.cbsOf m' c = KernelIdeal.Val.cbsOf m c)
    (h4 : Reference.scOf m' c = KernelIdeal.Val.scOf m c) (r : Fin 1536) (f : Fin 1408) :
    (Cert.ReferenceIdeal.Value.res_main_v68 m' c : Cert.ReferenceIdeal.S1536x1408.Idx → EReal) (ix2 r f)
      = (KernelIdeal.Val.outUpTo m hO c 60 : Cert.KernelIdeal.S1536x1408.Idx → EReal) (ix2 r f) := by
  subst hc
  by_cases hr : r.val < HostFacts.off (KernelIdeal.gsOf m 0) 60
  · obtain ⟨e, he⟩ := exists_owner r 60 (Nat.le_refl _) hr
    refine (Reference.result_owned m' 0 (by rw [h1]; exact hs) e r f (by rw [h1]; exact he.1) (by rw [h1]; exact he.2)).trans ?_
    rw [h0, h2, h3, h4]
    exact (KernelIdeal.Val.out_owned m hO hs 0 e r f he).symm
  · refine (Reference.result_unowned m' 0 (by rw [h1]; exact hs) r f (by rw [h1]; exact Nat.not_lt.mp hr)).trans
      (KernelIdeal.Val.out_unowned m hO hs 0 r f fun e he => hr ?_).symm
    exact Nat.lt_of_lt_of_le he.2 (HostFacts.off_mono e.isLt)

/-- Over the reals, from equal arguments with group sizes that count rows, the idealized kernel and the reference both run and end
    with the same result, their arguments unchanged. -/
theorem algebraic : Cert.algebraic_KernelIdeal_ReferenceIdeal (hKernelIdeal := Cert.KernelIdeal.Gen.facts) (hReferenceIdeal := Cert.ReferenceIdeal.Gen.facts)
    (hPre_sizes_are_row_counts := Cert.Pre_sizes_are_row_counts.Gen.facts) := by
  intro m g m' g' hpre hagree
  have hs : HostFacts.Small (KernelIdeal.gsOf m 0) := HostFacts.small_of_pre _ _ _ _ _ (hpre 0)
  have hO : KernelIdeal.Ok m := KernelIdeal.okM m hs
  refine ⟨fun c => KernelIdeal.Val.outUpTo m hO c 60, KernelIdeal.Val.run m g hO hs, ?_⟩
  refine (θ_run Cert.ReferenceIdeal.defs _ _).mono (fun _ h c => ⟨(h c).1.trans ?_, (h c).2⟩) (Cert.ReferenceIdeal.Value.run (F := Ideal) m' g')
  obtain ⟨h0, h1, h2, h3, h4⟩ := hagree c
  refine funext fun (i : Cert.KernelIdeal.S1536x1408.Idx) => ?_
  have hi : i = ix2 ⟨(i 0).val, (i 0).isLt⟩ ⟨(i 1).val, (i 1).isLt⟩ := funext fun a => match a with
    | ⟨0, _⟩ => rfl
    | ⟨1, _⟩ => rfl
  rw [hi]
  exact results_agree m m' hO hs c (Subsingleton.elim _ _) h0 h1 h2 h3 h4 _ _

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sizes_are_row_counts
public import proofs.«01_k».proof.Proof.KernelFrame
public import proofs.«01_k».proof.Proof.KernelIdealFrame
public import proofs.«01_k».proof.Proof.Precondition
public import proofs.«01_k».proof.Proof.Algebraic
public import Idealize.ShloMosaic.Lib.Bf16Pair
public import Idealize.ShloMosaic.Adequacy
public import Idealize.ShloMosaic.Init

@[expose] public section

noncomputable section

namespace Cert.Proof

open Idealize.ShloMosaic Idealize.SL.Sem

attribute [local instance] Cert.ReferenceIdeal.Gen.facts

/-- The reference runs, leaves its arguments as they were, and ends with every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every claim of this directory. -/
theorem claim : Cert.Claim := ⟨Cert.Kernel.Gen.facts, Cert.KernelIdeal.Gen.facts, Cert.ReferenceIdeal.Gen.facts, Cert.Pre_sizes_are_row_counts.Gen.facts,
  fun m g h => Cert.Proof.Kernel.frame m g (Cert.Proof.Kernel.okM m (HostFacts.small_of_pre _ _ _ _ _ (h 0))) (HostFacts.small_of_pre _ _ _ _ _ (h 0)),
  fun m g h => Cert.Proof.KernelIdeal.frame m g (Cert.Proof.KernelIdeal.okM m (HostFacts.small_of_pre _ _ _ _ _ (h 0))) (HostFacts.small_of_pre _ _ _ _ _ (h 0)),
  frame_reference,
  fun m g _ => frame_reference m g trivial,
  IdealRules.bf16_pair.statement Cert.KernelIdeal.S16x128 Cert.KernelIdeal.S8x128,
  algebraic⟩

end Cert.Proof

end
